-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![4, 2048, 16, 128]⟩ ⟨4, ![4, 2048, 64, 128]⟩ (Layout.meshBlock [2, 4, 4] ![[], [], [2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 8192]⟩ ⟨2, ![8192, 8192]⟩ (Layout.meshBlock [2, 4, 4] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = Layout.blockN ⟨3, ![4, 512, 8192]⟩ ⟨3, ![4, 2048, 8192]⟩ (Layout.meshBlock [2, 4, 4] ![[], [2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x16x128 : Shape := ⟨4, ![4, 2048, 16, 128]⟩
abbrev S2048x8192 : Shape := ⟨2, ![2048, 8192]⟩
abbrev S4x2048x2048 : Shape := ⟨3, ![4, 2048, 2048]⟩
abbrev S4x2048x8192 : Shape := ⟨3, ![4, 2048, 8192]⟩
abbrev S4x512x8192 : Shape := ⟨3, ![4, 512, 8192]⟩
abbrev S_ : Shape := ⟨0, ![]⟩

abbrev nBuf : Space → Nat
  | .hbm => 7
  | .vmem => 3
  | .smem => 0
  | _ => 0

abbrev bufTy : (tb : Table) → Fin (tcTables nBuf tb) → BufTy
  | .hbm, ⟨0, _⟩ => ⟨S4x2048x16x128, .bf16⟩
  | .hbm, ⟨1, _⟩ => ⟨S2048x8192, .bf16⟩
  | .hbm, ⟨2, _⟩ => ⟨S4x2048x2048, .bf16⟩
  | .hbm, ⟨3, _⟩ => ⟨S4x2048x8192, .f32⟩
  | .hbm, ⟨4, _⟩ => ⟨S4x2048x8192, .bf16⟩
  | .hbm, ⟨5, _⟩ => ⟨S4x512x8192, .bf16⟩
  | .hbm, ⟨6, _⟩ => ⟨S4x512x8192, .f32⟩
  | .local _ .vmem, ⟨0, _⟩ => ⟨S4x512x8192, .bf16⟩
  | .local _ .vmem, ⟨1, _⟩ => ⟨S4x512x8192, .bf16⟩
  | .local _ .vmem, ⟨2, _⟩ => ⟨S4x512x8192, .bf16⟩
  | _, _ => ⟨S4x2048x16x128, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 2 → Bool
  | ⟨0, _⟩ => true
  | ⟨1, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 2 4 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 1

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_8 : BitVec 32 := 16#32
  let v15 : BitVec 32 := Scalar.muli v2 c16_i32_8
  let v16 : BitVec 32 := Scalar.addi c0_i32 v15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_9 : BitVec 32 := 4#32
  let v17 : BitVec 32 := Scalar.muli v5 c4_i32_9
  let v18 : BitVec 32 := Scalar.addi v16 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_2 : BitVec 32 := 4#32
  let v9 : BitVec 32 := Scalar.addi v8 c4_i32_2
  let c1_i32_3 : BitVec 32 := 1#32
  let v10 : BitVec 32 := Scalar.subi v9 c1_i32_3
  let c4_i32_4 : BitVec 32 := 4#32
  let v11 : BitVec 32 := Scalar.remsi v10 c4_i32_4
  let c1_i32_10 : BitVec 32 := 1#32
  let v19 : BitVec 32 := Scalar.muli v11 c1_i32_10
  let v20 : BitVec 32 := Scalar.addi v18 v19
  v20.toNat
def k0_dev2 (d0 : Dev nD) : Nat :=
  let c0_i32_13 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_12 : BitVec 32 := 16#32
  let v21 : BitVec 32 := Scalar.muli v2 c16_i32_12
  let v22 : BitVec 32 := Scalar.addi c0_i32_13 v21
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_14 : BitVec 32 := 4#32
  let v23 : BitVec 32 := Scalar.muli v5 c4_i32_14
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_15 : BitVec 32 := 1#32
  let v25 : BitVec 32 := Scalar.muli v13 c1_i32_15
  let v26 : BitVec 32 := Scalar.addi v24 v25
  v26.toNat
def k0_dev3 (d0 : Dev nD) : Nat :=
  let c0_i32_19 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_18 : BitVec 32 := 16#32
  let v27 : BitVec 32 := Scalar.muli v2 c16_i32_18
  let v28 : BitVec 32 := Scalar.addi c0_i32_19 v27
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_20 : BitVec 32 := 4#32
  let v29 : BitVec 32 := Scalar.muli v5 c4_i32_20
  let v30 : BitVec 32 := Scalar.addi v28 v29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_2 : BitVec 32 := 4#32
  let v9 : BitVec 32 := Scalar.addi v8 c4_i32_2
  let c1_i32_3 : BitVec 32 := 1#32
  let v10 : BitVec 32 := Scalar.subi v9 c1_i32_3
  let c4_i32_4 : BitVec 32 := 4#32
  let v11 : BitVec 32 := Scalar.remsi v10 c4_i32_4
  let c1_i32_21 : BitVec 32 := 1#32
  let v31 : BitVec 32 := Scalar.muli v11 c1_i32_21
  let v32 : BitVec 32 := Scalar.addi v30 v31
  v32.toNat
def k0_off1 (d0 : Dev nD) (c1_i32_23 : BitVec 32) : Fin 3 → Nat :=
  let c0_i32_25 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_22 : BitVec 32 := 4#32
  let v33 : BitVec 32 := Scalar.addi v8 c4_i32_22
  let v34 : BitVec 32 := Scalar.subi v33 c1_i32_23
  let c4_i32_24 : BitVec 32 := 4#32
  let v35 : BitVec 32 := Scalar.remsi v34 c4_i32_24
  let c512_i32 : BitVec 32 := 512#32
  let v36 : BitVec 32 := Scalar.muli v35 c512_i32
  let c0_i32_26 : BitVec 32 := 0#32
  ![0, v36.toNat, 0]
def k0_dev4 (d0 : Dev nD) : Nat :=
  let c0_i32_38 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_37 : BitVec 32 := 16#32
  let v44 : BitVec 32 := Scalar.muli v2 c16_i32_37
  let v45 : BitVec 32 := Scalar.addi c0_i32_38 v44
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_39 : BitVec 32 := 4#32
  let v46 : BitVec 32 := Scalar.muli v5 c4_i32_39
  let v47 : BitVec 32 := Scalar.addi v45 v46
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_40 : BitVec 32 := 1#32
  let v48 : BitVec 32 := Scalar.muli v13 c1_i32_40
  let v49 : BitVec 32 := Scalar.addi v47 v48
  v49.toNat
def k0_off2 (d0 : Dev nD) (c4_i32_46 : BitVec 32) (c1_i32_47 : BitVec 32) (c1_i32_48 : BitVec 32) : Fin 3 → Nat :=
  let c0_i32_51 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v56 : BitVec 32 := Scalar.addi v8 c4_i32_46
  let v57 : BitVec 32 := Scalar.subi v56 c1_i32_47
  let v58 : BitVec 32 := Scalar.subi v57 c1_i32_48
  let c4_i32_49 : BitVec 32 := 4#32
  let v59 : BitVec 32 := Scalar.remsi v58 c4_i32_49
  let c512_i32_50 : BitVec 32 := 512#32
  let v60 : BitVec 32 := Scalar.muli v59 c512_i32_50
  let c0_i32_52 : BitVec 32 := 0#32
  ![0, v60.toNat, 0]
def k0_off2_at (r : Fin 4) : BitVec 32 × BitVec 32 × BitVec 32 :=
  if r.val < 2 then
    if r.val < 1 then
      (4#32, 1#32, 1#32)
    else
      (8#32, 2#32, 1#32)
  else
    if r.val < 3 then
      (4#32, 1#32, 2#32)
    else
      (8#32, 2#32, 2#32)
def k0_dev5 (d0 : Dev nD) : Nat :=
  let c0_i32_63 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_62 : BitVec 32 := 16#32
  let v68 : BitVec 32 := Scalar.muli v2 c16_i32_62
  let v69 : BitVec 32 := Scalar.addi c0_i32_63 v68
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_64 : BitVec 32 := 4#32
  let v70 : BitVec 32 := Scalar.muli v5 c4_i32_64
  let v71 : BitVec 32 := Scalar.addi v69 v70
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_2 : BitVec 32 := 4#32
  let v9 : BitVec 32 := Scalar.addi v8 c4_i32_2
  let c1_i32_3 : BitVec 32 := 1#32
  let v10 : BitVec 32 := Scalar.subi v9 c1_i32_3
  let c4_i32_4 : BitVec 32 := 4#32
  let v11 : BitVec 32 := Scalar.remsi v10 c4_i32_4
  let c1_i32_65 : BitVec 32 := 1#32
  let v72 : BitVec 32 := Scalar.muli v11 c1_i32_65
  let v73 : BitVec 32 := Scalar.addi v71 v72
  v73.toNat
def k0_dev6 (d0 : Dev nD) : Nat :=
  let c0_i32_75 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_74 : BitVec 32 := 16#32
  let v80 : BitVec 32 := Scalar.muli v2 c16_i32_74
  let v81 : BitVec 32 := Scalar.addi c0_i32_75 v80
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_76 : BitVec 32 := 4#32
  let v82 : BitVec 32 := Scalar.muli v5 c4_i32_76
  let v83 : BitVec 32 := Scalar.addi v81 v82
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_77 : BitVec 32 := 1#32
  let v84 : BitVec 32 := Scalar.muli v13 c1_i32_77
  let v85 : BitVec 32 := Scalar.addi v83 v84
  v85.toNat
def k0_dev7 (d0 : Dev nD) : Nat :=
  let c0_i32_101 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_100 : BitVec 32 := 16#32
  let v104 : BitVec 32 := Scalar.muli v2 c16_i32_100
  let v105 : BitVec 32 := Scalar.addi c0_i32_101 v104
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_102 : BitVec 32 := 4#32
  let v106 : BitVec 32 := Scalar.muli v5 c4_i32_102
  let v107 : BitVec 32 := Scalar.addi v105 v106
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_2 : BitVec 32 := 4#32
  let v9 : BitVec 32 := Scalar.addi v8 c4_i32_2
  let c1_i32_3 : BitVec 32 := 1#32
  let v10 : BitVec 32 := Scalar.subi v9 c1_i32_3
  let c4_i32_4 : BitVec 32 := 4#32
  let v11 : BitVec 32 := Scalar.remsi v10 c4_i32_4
  let c1_i32_103 : BitVec 32 := 1#32
  let v108 : BitVec 32 := Scalar.muli v11 c1_i32_103
  let v109 : BitVec 32 := Scalar.addi v107 v108
  v109.toNat
def k0_dev8 (d0 : Dev nD) : Nat :=
  let c0_i32_114 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_113 : BitVec 32 := 16#32
  let v116 : BitVec 32 := Scalar.muli v2 c16_i32_113
  let v117 : BitVec 32 := Scalar.addi c0_i32_114 v116
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_115 : BitVec 32 := 4#32
  let v118 : BitVec 32 := Scalar.muli v5 c4_i32_115
  let v119 : BitVec 32 := Scalar.addi v117 v118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_116 : BitVec 32 := 1#32
  let v120 : BitVec 32 := Scalar.muli v13 c1_i32_116
  let v121 : BitVec 32 := Scalar.addi v119 v120
  v121.toNat
def k0_off3 (d0 : Dev nD) : Fin 3 → Nat :=
  let c0_i32_124 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_122 : BitVec 32 := 4#32
  let v128 : BitVec 32 := Scalar.remsi v8 c4_i32_122
  let c512_i32_123 : BitVec 32 := 512#32
  let v129 : BitVec 32 := Scalar.muli v128 c512_i32_123
  let c0_i32_125 : BitVec 32 := 0#32
  ![0, v129.toNat, 0]
-- ==== ReferenceIdeal.lean ====
abbrev S4x2048x64x128 : Shape := ⟨4, ![4, 2048, 64, 128]⟩
abbrev S8192x8192 : Shape := ⟨2, ![8192, 8192]⟩
abbrev S4x2048x8192 : Shape := ⟨3, ![4, 2048, 8192]⟩

abbrev nBuf : Space → Nat
  | .hbm => 6
  | .vmem => 0
  | .smem => 0
  | _ => 0

abbrev bufTy : (tb : Table) → Fin (tcTables nBuf tb) → BufTy
  | .hbm, ⟨0, _⟩ => ⟨S4x2048x64x128, .bf16⟩
  | .hbm, ⟨1, _⟩ => ⟨S8192x8192, .bf16⟩
  | .hbm, ⟨2, _⟩ => ⟨S4x2048x8192, .bf16⟩
  | .hbm, ⟨3, _⟩ => ⟨S4x2048x8192, .f32⟩
  | .hbm, ⟨4, _⟩ => ⟨S4x2048x8192, .bf16⟩
  | .hbm, ⟨5, _⟩ => ⟨S4x2048x8192, .f32⟩
  | _, _ => ⟨S4x2048x64x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Ring.lean ====
/- The geometry of the reduce-scatter kernel: each device's two neighbours on its `z` ring, the chunk of the local product
   that each local copy takes, and the partial sums that travel round the ring. -/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.Tactic
public import Idealize.ShloMosaic.PureOps

@[expose] public section

noncomputable section

namespace Cert.KernelIdeal.RS

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Neighbours -/

/-- The left neighbour on the `z` ring: same `x` and `y`, `z` one less. -/
def prv (c : Dev nD) : Dev nD :=
  ⟨16 * (c.val / 16) + 4 * ((c.val / 4) % 4) + (c.val % 4 + 3) % 4, by have h : c.val < 32 := c.isLt; show _ < 32; omega⟩
/-- The right neighbour: `z` one more. -/
def nxt (c : Dev nD) : Dev nD :=
  ⟨16 * (c.val / 16) + 4 * ((c.val / 4) % 4) + (c.val % 4 + 1) % 4, by have h : c.val < 32 := c.isLt; show _ < 32; omega⟩

theorem prv_nxt (c : Dev nD) : prv (nxt c) = c := by revert c; decide
theorem nxt_prv (c : Dev nD) : nxt (prv c) = c := by revert c; decide

/-- One step to the right, as a bijection of the mesh. -/
def ring : Dev nD ≃ Dev nD := ⟨nxt, prv, prv_nxt, nxt_prv⟩

theorem dev1_left (c : Dev nD) : (⟨k0_dev1 c, k0_dev1_lt c⟩ : Dev nD) = prv c := Fin.ext (k0_dev1_eq c)
theorem dev2_right (c : Dev nD) : (⟨k0_dev2 c, k0_dev2_lt c⟩ : Dev nD) = nxt c := Fin.ext (k0_dev2_eq c)
theorem dev3_left (c : Dev nD) : (⟨k0_dev3 c, k0_dev3_lt c⟩ : Dev nD) = prv c := Fin.ext (k0_dev3_eq c)
theorem dev4_right (c : Dev nD) : (⟨k0_dev4 c, k0_dev4_lt c⟩ : Dev nD) = nxt c := Fin.ext (k0_dev4_eq c)
theorem dev5_left (c : Dev nD) : (⟨k0_dev5 c, k0_dev5_lt c⟩ : Dev nD) = prv c := Fin.ext (k0_dev5_eq c)
theorem dev6_right (c : Dev nD) : (⟨k0_dev6 c, k0_dev6_lt c⟩ : Dev nD) = nxt c := Fin.ext (k0_dev6_eq c)
theorem dev7_left (c : Dev nD) : (⟨k0_dev7 c, k0_dev7_lt c⟩ : Dev nD) = prv c := Fin.ext (k0_dev7_eq c)
theorem dev8_right (c : Dev nD) : (⟨k0_dev8 c, k0_dev8_lt c⟩ : Dev nD) = nxt c := Fin.ext (k0_dev8_eq c)

/-! ## Chunks of the local product -/

/-- The contents of a chunk buffer, and of the whole local product. -/
abbrev Blk (F : FTy → Type) [FloatOps F] : Type := Vec F S4x512x8192 .bf16
abbrev Loc3 (F : FTy → Type) [FloatOps F] : Type := Vec F S4x2048x8192 .bf16

/-- The offsets inside bounds. -/
abbrev Inb (off : Fin 3 → ℕ) : Prop := ∀ a, off a + S4x512x8192.size a ≤ S4x2048x8192.size a

/-- The chunk of the local product that starts at `off`, as a memory reference. -/
abbrev sl (off : Fin 3 → ℕ) (h : Inb off) : Memref sig .tc .hbm S4x512x8192 .bf16 :=
  (Memref.whole main_v3).slice (Rect.unit (s := S4x2048x8192) off S4x512x8192.size h) (fun _ => rfl)

/-- The offsets of the chunk that device `c` takes at its local copy number `j`: rows from `512 * ((z + 3 - j) mod 4)`. -/
def at_ (c : Dev nD) (j : ℕ) : Fin 3 → ℕ := ![0, 512 * ((c.val % 4 + 3 - j) % 4), 0]
theorem at_inb (c : Dev nD) (j : ℕ) : Inb (at_ c j) := by
  intro a; have h : (c.val % 4 + 3 - j) % 4 < 4 := Nat.mod_lt _ (by decide)
  fin_cases a
  · show 0 + 4 ≤ 4; omega
  · show 512 * ((c.val % 4 + 3 - j) % 4) + 512 ≤ 2048; omega
  · show 0 + 8192 ≤ 8192; omega

theorem off1_0 (c : Dev nD) : k0_off1 c 1#32 = at_ c 0 := k0_off1_eq c ⟨0, by decide⟩
theorem off1_1 (c : Dev nD) : k0_off1 c 2#32 = at_ c 1 := k0_off1_eq c ⟨1, by decide⟩
theorem off2_0 (c : Dev nD) : k0_off2 c 4#32 1#32 1#32 = at_ c 1 := by revert c; decide +kernel
theorem off2_1 (c : Dev nD) : k0_off2 c 8#32 2#32 1#32 = at_ c 2 := by revert c; decide +kernel
theorem off2_2 (c : Dev nD) : k0_off2 c 4#32 1#32 2#32 = at_ c 2 := by revert c; decide +kernel
theorem off2_3 (c : Dev nD) : k0_off2 c 8#32 2#32 2#32 = at_ c 3 := by revert c; decide +kernel
theorem off3_3 (c : Dev nD) : k0_off3 c = at_ c 3 := by revert c; decide +kernel

/-- The chunk of `p` that device `c` takes at its local copy number `j`. -/
def ck (p : Loc3 F) (c : Dev nD) (j : ℕ) : Blk F := (sl (at_ c j) (at_inb c j)).view.read (Elt F) p

variable (P : Dev nD → Loc3 F)

/-- What device `c` holds to send, by round: its first chunk, then at each round its next chunk added to what the left
    neighbour sent in the round before. Round 3 is the result. -/
def part : ℕ → Dev nD → Blk F
  | 0, c => ck (P c) c 0
  | r + 1, c => k0_pay1 (ck (P c) c (r + 1)) (part r (prv c))

end Cert.KernelIdeal.RS

end
-- ==== Proof.Sched.lean ====
/- The protocol: for each semaphore cell its rounds, who pays into it, how much, and what the payment hands over; what each
   device owes, and the levels by which no wait can be circular. -/
module

public import proofs.«01_k».proof.Proof.Ring

@[expose] public section

noncomputable section

namespace Cert.KernelIdeal.RS

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-- The pipeline library's ghost state beside the protocol's: two payers at most per round. -/
abbrev UU : Type := UR sig nD τ × URounds (GSem nD τ sig) (Fin 2)

local notation "𝕄" => MT nD τ sig ℕ (Elt F) ℕ UU ℕ

abbrev EP : Emb (UR sig nD τ) (MT nD τ sig ℕ (Elt F) ℕ UU ℕ) := embL
abbrev ER : Emb (URounds (GSem nD τ sig) (Fin 2)) (MT nD τ sig ℕ (Elt F) ℕ UU ℕ) := embR

/-! ## Cells -/

abbrev barS : Sem sig := 1
abbrev credS : Sem sig := 0
abbrev sendS : DmaSem sig := 0
abbrev recvS : DmaSem sig := 1
abbrev locS : DmaSem sig := 2
abbrev outS : DmaSem sig := 3

abbrev barCell (c : Dev nD) : GSem nD τ sig := ((c : Thread nD τ), .reg barS)
abbrev credCell (c : Dev nD) : GSem nD τ sig := ((c : Thread nD τ), .reg credS)
abbrev sendCell (c : Dev nD) : GSem nD τ sig := ((c : Thread nD τ), .dma sendS)
abbrev recvCell (c : Dev nD) : GSem nD τ sig := ((c : Thread nD τ), .dma recvS)
abbrev locCell (c : Dev nD) : GSem nD τ sig := ((c : Thread nD τ), .dma locS)
abbrev outCell (c : Dev nD) : GSem nD τ sig := ((c : Thread nD τ), .dma outS)

/-- What a copy of one chunk adds to its semaphore. -/
def N : ℕ := (Memref.whole cc0_scratch1 : Memref sig .tc .vmem S4x512x8192 .bf16).view.dmaCredit
theorem N_pos : 0 < N := View.dmaCredit_pos _ (by decide)
theorem credit_scratch0 : (Memref.whole cc0_scratch0 : Memref sig .tc .vmem S4x512x8192 .bf16).view.dmaCredit = N := rfl
theorem credit_scratch2 : (Memref.whole cc0_scratch2 : Memref sig .tc .vmem S4x512x8192 .bf16).view.dmaCredit = N := rfl
theorem credit_out : (Memref.whole main_v4 : Memref sig .tc .hbm S4x512x8192 .bf16).view.dmaCredit = N := rfl

/-- Device `c`'s buffer `b`, whole, at `f`. -/
abbrev pt (c : Dev nD) (b : Ref sig .tc) (f : Buf (Elt F) ((c : Thread nD τ).loc b)) : sProp 𝕄 :=
  ((c : Thread nD τ).loc b) ↦{fullShare} f

/-- The same through the whole buffer's view. -/
theorem pt_view (c : Dev nD) (b : Ref sig .tc) (f : Buf (Elt F) ((c : Thread nD τ).loc b)) :
    ((Memref.whole b).view.loc (c : Thread nD τ) ↦[(Memref.whole b).view.set]{fullShare} f) = (pt c b f : sProp 𝕄) := by
  rw [View.set_whole]

/-- Device `c`'s local product, only the chunk at `off`. -/
abbrev ptSl (c : Dev nD) (off : Fin 3 → ℕ) (h : Inb off) (p : Loc3 F) : sProp 𝕄 :=
  (sl off h).view.loc (c : Thread nD τ) ↦[(sl off h).view.set]{fullShare} p

variable (P : Dev nD → Loc3 F)

/-! ## What each payment hands over -/

/-- Paid by the right neighbour at round `r`: its landing buffer, and that round `r` of its landing cell is reached. -/
def credPay (c : Dev nD) (r : ℕ) : sProp 𝕄 := iprop((∃ f, pt (nxt c) cc0_scratch1 f) ∗ reached ER (recvCell (nxt c)) r)
/-- Paid by the left neighbour's copy at round `r`: the own landing buffer at the left neighbour's partial sum, and that the
    left neighbour awaits round `r + 1` of its credits. -/
def recvPay (c : Dev nD) (r : ℕ) : sProp 𝕄 :=
  iprop(pt c cc0_scratch1 (part P r (prv c)) ∗ reached ER (credCell (prv c)) (r + 1))
/-- Paid by the own copy once its source is read: the sending buffer back. -/
def sendPay (c : Dev nD) (r : ℕ) : sProp 𝕄 := pt c cc0_scratch0 (part P r c)
/-- Paid by the local copy number `j`: the buffer it fills, and the chunk it reads. -/
def locPay (c : Dev nD) (j : ℕ) : sProp 𝕄 :=
  iprop((if j = 0 then pt c cc0_scratch0 (ck (P c) c 0) else pt c cc0_scratch2 (ck (P c) c j)) ∗ ptSl c (at_ c j) (at_inb c j) (P c))
/-- Paid by the copy of the result. -/
def outPay (c : Dev nD) : sProp 𝕄 := iprop(pt c main_v4 (part P 3 c) ∗ pt c cc0_scratch0 (part P 3 c))
/-- Paid to the barrier: by the left neighbour (payer 0) that its credit cell is open; by the right one nothing. -/
def barPay (c : Dev nD) (d : Fin 2) : sProp 𝕄 := if d = 0 then reached ER (credCell (prv c)) 0 else iprop(emp)

/-! ## The schedule -/

/-- How many rounds each semaphore has. -/
def rounds : SemLoc sig → ℕ
  | .reg s => if s = barS then 1 else 3
  | .dma s => if s = locS then 4 else if s = outS then 1 else 3

def rd : Rounds.Schedule (GSem nD τ sig) (Fin 2) 𝕄 where
  duties g r := if g.1.2 = .tc ∧ r < rounds g.2 then (if g.2 = .reg barS then Finset.univ else {0}) else ∅
  unitless _ := False
  amount g _ _ := match g.2 with
    | .reg _ => 1
    | .dma _ => N
  payload g r d := match g.2 with
    | .reg s => if s = barS then barPay g.1.1 d else credPay g.1.1 r
    | .dma s => if s = sendS then sendPay P g.1.1 r else if s = recvS then recvPay P g.1.1 r
        else if s = locS then locPay P g.1.1 r else outPay P g.1.1
  amount_pos g _ _ _ := by
    obtain ⟨t, s⟩ := g
    cases s
    · exact Nat.one_pos
    · exact N_pos

instance rd_storable (g : GSem nD τ sig) (r : ℕ) (d : Fin 2) : BI.Storable (upEmb : UEmb _ 𝕄) ((rd P).payload g r d) := by
  obtain ⟨t, s⟩ := g
  cases s with
  | reg s =>
    show BI.Storable upEmb (if s = barS then barPay t.1 d else credPay t.1 r)
    unfold barPay credPay
    (repeat' split) <;> infer_instance
  | dma s =>
    show BI.Storable upEmb (if s = sendS then sendPay P t.1 r else if s = recvS then recvPay P t.1 r
        else if s = locS then locPay P t.1 r else outPay P t.1)
    unfold sendPay recvPay locPay outPay
    (repeat' split) <;> infer_instance

section Cells

variable (c : Dev nD) (r : ℕ)

theorem duties_of (s : SemLoc sig) (hs : s ≠ .reg barS) (hr : r < rounds s) : (rd P).duties ((c : Thread nD τ), s) r = {0} := by
  dsimp only [rd]; rw [if_pos ⟨rfl, hr⟩, if_neg hs]
theorem pays_one (s : SemLoc sig) (hs : s ≠ .reg barS) (hr : r < rounds s) : 0 ∈ (rd P).duties ((c : Thread nD τ), s) r := by
  rw [duties_of P c r s hs hr]; exact Finset.mem_singleton_self _
theorem duties_bar : (rd P).duties (barCell c) 0 = Finset.univ := by
  dsimp only [rd]; rw [if_pos ⟨rfl, Nat.one_pos⟩, if_pos rfl]
theorem duties_end (s : SemLoc sig) (t : Thread nD τ) (hr : rounds s ≤ r) : (rd P).duties (t, s) r = ∅ := by
  dsimp only [rd]; rw [if_neg (fun h => absurd h.2 (Nat.not_lt.mpr hr))]

theorem amount_reg (s : Sem sig) (d : Fin 2) : (rd P).amount ((c : Thread nD τ), .reg s) r d = 1 := rfl
theorem amount_dma (s : DmaSem sig) (d : Fin 2) : (rd P).amount ((c : Thread nD τ), .dma s) r d = N := rfl

theorem expect_bar : (rd P).expect (barCell c) 0 = 2 := by
  unfold Schedule.expect Schedule.amountOf; rw [duties_bar]; rfl
theorem expect_reg (s : Sem sig) (hs : (.reg s : SemLoc sig) ≠ .reg barS) (hr : r < rounds (.reg s)) :
    (rd P).expect ((c : Thread nD τ), .reg s) r = 1 := by
  unfold Schedule.expect Schedule.amountOf; rw [duties_of P c r _ hs hr, Finset.sum_singleton, amount_reg]
theorem expect_dma (s : DmaSem sig) (hr : r < rounds (.dma s)) :
    (rd P).expect ((c : Thread nD τ), .dma s) r = N := by
  unfold Schedule.expect Schedule.amountOf
  rw [duties_of P c r _ (fun h => by cases h) hr, Finset.sum_singleton, amount_dma]

theorem payload_bar (d : Fin 2) : (rd P).payload (barCell c) r d = barPay c d := rfl
theorem payload_cred (d : Fin 2) : (rd P).payload (credCell c) r d = credPay c r := rfl
theorem payload_send (d : Fin 2) : (rd P).payload (sendCell c) r d = sendPay P c r := rfl
theorem payload_recv (d : Fin 2) : (rd P).payload (recvCell c) r d = recvPay P c r := rfl
theorem payload_loc (d : Fin 2) : (rd P).payload (locCell c) r d = locPay P c r := rfl
theorem payload_out (d : Fin 2) : (rd P).payload (outCell c) r d = outPay P c := rfl

/-- What a wait for a whole round of a cell with one payer brings. -/
theorem rest_of (s : SemLoc sig) (hs : s ≠ .reg barS) (hr : r < rounds s) :
    bigSep ((rd P).duties ((c : Thread nD τ), s) r \ ∅) (fun d => (rd P).payload ((c : Thread nD τ), s) r d)
      = (rd P).payload ((c : Thread nD τ), s) r 0 := by
  rw [Finset.sdiff_empty, duties_of P c r s hs hr, bigSep_singleton]
theorem rest_bar :
    bigSep ((rd P).duties (barCell c) 0 \ ∅) (fun d => (rd P).payload (barCell c) 0 d)
      = iprop(reached ER (credCell (prv c)) 0 ∗ emp) := by
  rw [Finset.sdiff_empty, duties_bar,
    show (Finset.univ : Finset (Fin 2)) = insert 0 {1} from by decide, bigSep_insert (by decide), bigSep_singleton]
  rfl

end Cells

/-! ## What each device owes; levels -/

/-- What device `c` still owes once it has given `a` credits and sent `b` times. -/
def Orem (c : Dev nD) (a b : ℕ) : CellTallies nD τ sig ℕ :=
  (∑ r ∈ Finset.Ico a 3, tallyAt (credCell (prv c)) r 1) + ∑ r ∈ Finset.Ico b 3, tallyAt (recvCell (nxt c)) r N

theorem Ico_first {a : ℕ} (h : a < 3) : Finset.Ico a 3 = insert a (Finset.Ico (a + 1) 3) := by
  ext x; simp only [Finset.mem_insert, Finset.mem_Ico]; omega
theorem first_not_mem (a : ℕ) : a ∉ Finset.Ico (a + 1) 3 := by simp only [Finset.mem_Ico]; omega

theorem Orem_cred (c : Dev nD) (a b : ℕ) (h : a < 3) : Orem c a b = Orem c (a + 1) b + tallyAt (credCell (prv c)) a 1 := by
  unfold Orem; rw [Ico_first h, Finset.sum_insert (first_not_mem a), add_assoc, add_comm (tallyAt (credCell (prv c)) a 1)]
theorem Orem_recv (c : Dev nD) (a b : ℕ) (h : b < 3) : Orem c a b = Orem c a (b + 1) + tallyAt (recvCell (nxt c)) b N := by
  unfold Orem; rw [Ico_first h, Finset.sum_insert (first_not_mem b), add_assoc, add_comm (tallyAt _ _ _)]
theorem Orem_end (c : Dev nD) : Orem c 3 3 = 0 := by unfold Orem; simp

/-- At launch it owes in addition a unit to each neighbour's barrier. -/
def Obar (c : Dev nD) : CellTallies nD τ sig ℕ := Orem c 0 0 + tallyAt (barCell (nxt c)) 0 1
def O₀ (c : Dev nD) : CellTallies nD τ sig ℕ := Obar c + tallyAt (barCell (prv c)) 0 1

def L (g : GSem nD τ sig) : Finset ℕ := if g.1.2 = .tc then Finset.range 4 else ∅
/-- The barrier lowest among what is owed, then the credits and the landings of each round in turn; the own copies below all. -/
def lv (g : GSem nD τ sig) (r : ℕ) : ℕ := match g.2 with
  | .reg s => if s = barS then 1 else 2 * r + 2
  | .dma s => if s = recvS then 2 * r + 3 else 0

theorem L_tc (c : Dev nD) (s : SemLoc sig) : L ((c : Thread nD τ), s) = Finset.range 4 := if_pos rfl
theorem L_off (g : GSem nD τ sig) (h : g.1.2 ≠ .tc) : L g = ∅ := if_neg h

theorem owed_of_pos {g g' : GSem nD τ sig} {i i' n : ℕ} (h : 0 < (tallyAt g i n : CellTallies nD τ sig ℕ) g' i') : g' = g ∧ i' = i := by
  rw [tallyAt_apply] at h
  by_contra hn
  rw [if_neg hn] at h; exact Nat.lt_irrefl 0 h

theorem owed_sum {S : Finset ℕ} {g g' : GSem nD τ sig} {i n : ℕ}
    (h : 0 < (∑ r ∈ S, (tallyAt g r n : CellTallies nD τ sig ℕ)) g' i) : g' = g ∧ i ∈ S := by
  rw [Finset.sum_apply, Finsupp.finsetSum_apply] at h
  obtain ⟨r, hr, h'⟩ := Finset.exists_ne_zero_of_sum_ne_zero (Nat.pos_iff_ne_zero.mp h)
  obtain ⟨h1, h2⟩ := owed_of_pos (Nat.pos_of_ne_zero h')
  exact ⟨h1, by rw [h2]; exact hr⟩

/-- A wait at a level below everything still owed is allowed. -/
theorem mayWait_rem (c : Dev nD) (s : SemLoc sig) (i a b : ℕ) (hi : i < 4)
    (ha : lv ((c : Thread nD τ), s) i < 2 * a + 2) (hb : lv ((c : Thread nD τ), s) i < 2 * b + 3) :
    (levAts L lv : sProp 𝕄) ⊢ MayWait (c : Thread nD τ) s i (Orem c a b) := by
  have key : ∀ (g : GSem nD τ sig) (j : ℕ), 0 < Orem c a b g j → j ∈ L g ∧ lv ((c : Thread nD τ), s) i < lv g j := by
    intro g j h
    unfold Orem at h
    rw [Pi.add_apply, Finsupp.add_apply] at h
    rcases Nat.eq_zero_or_pos ((∑ r ∈ Finset.Ico a 3, (tallyAt (credCell (prv c)) r 1 : CellTallies nD τ sig ℕ)) g j) with h0 | h0
    · have h' : 0 < (∑ r ∈ Finset.Ico b 3, (tallyAt (recvCell (nxt c)) r N : CellTallies nD τ sig ℕ)) g j := by
        rwa [h0, Nat.zero_add] at h
      obtain ⟨rfl, hj⟩ := owed_sum h'
      rw [Finset.mem_Ico] at hj
      exact ⟨by rw [L_tc, Finset.mem_range]; omega, lt_of_lt_of_le hb (by show _ ≤ 2 * j + 3; omega)⟩
    · obtain ⟨rfl, hj⟩ := owed_sum h0
      rw [Finset.mem_Ico] at hj
      exact ⟨by rw [L_tc, Finset.mem_range]; omega, lt_of_lt_of_le ha (by show _ ≤ 2 * j + 2; omega)⟩
  exact MayOwe.of_cut (L := L) (lev := lv) (lv ((c : Thread nD τ), s) i)
    (fun p hp => by rw [Finset.mem_singleton.mp hp, L_tc]; exact Finset.mem_range.mpr hi)
    (fun g j h => (key g j h).1) (fun p hp => by rw [Finset.mem_singleton.mp hp]) (fun g j h => (key g j h).2)

end Cert.KernelIdeal.RS

end
-- ==== Proof.Steps.lean ====
/- One lemma for each kind of step of the kernel body, with the round as a parameter. -/
module

public import proofs.«01_k».proof.Proof.Sched

@[expose] public section

noncomputable section

namespace Cert.KernelIdeal.RS

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

abbrev 𝒱₀ : Variants := Variants.none

variable (P : Dev nD → Loc3 F) (K : GSem nD τ sig → ℕ) (c : Dev nD)

/-- The invariant of one cell, at the name it was given at launch. -/
abbrev inv (g : GSem nD τ sig) : sProp 𝕄 := cellInv ER (rd P) (K g) g
/-- What a device owes, whatever waits it has recorded. -/
def ow (O : CellTallies nD τ sig ℕ) : sProp 𝕄 := iprop(∃ W, owes (c : Thread nD τ) O W)
/-- The weakest precondition of a piece of the body on device `c`. -/
abbrev run (p : Prog (TpuEff nD τ sig (Elt F) Λ₀ .tc) PUnit) (Q : PUnit → sProp 𝕄) : sProp 𝕄 :=
  wp frame (wpE (defs₀ (F := F)) 𝒱₀ (c : Thread nD τ) none) Set.univ p Q

/-! ## The protocol's moves at a whole round -/

/-- A signal to another device, paying for one payer's part of round `r`. -/
theorem signal_step (e : Dev nD) (s : Sem sig) (r : ℕ) (d : Fin 2) {O' : CellTallies nD τ sig ℕ} (O : CellTallies nD τ sig ℕ)
    (hd : d ∈ (rd P).duties ((e : Thread nD τ), .reg s) r) (hO : O' = O + tallyAt ((e : Thread nD τ), .reg s) r 1)
    {k : PUnit.{1} → Prog (TpuEff nD τ sig (Elt F) Λ₀ .tc) PUnit} {Q : PUnit.{1} → sProp 𝕄} :
    iprop(inv P K ((e : Thread nD τ), .reg s) ∗ ow c O' ∗ dutyTok ER ((e : Thread nD τ), .reg s) r d
        ∗ (rd P).payload ((e : Thread nD τ), .reg s) r d ∗ reached ER ((e : Thread nD τ), .reg s) r)
      ⊢ iprop((ow c O -∗ run c (k ⟨⟩) Q) -∗ run c (.op (.semSignal (e : Thread nD τ) s ((1 : ℕ) : ℤ)) k) Q) := by
  unfold ow
  iintro ⟨#HI, ⟨%W, HO⟩, Ht, Hp, #Hr⟩ Hk
  iapply (Rounds.wp_signal 𝒱₀ ER (rd P) (c : Thread nD τ) none (dst := (e : Thread nD τ)) (sem := s) (r := r) (d := d)
      (κ := K ((e : Thread nD τ), .reg s)) hd (amount_reg P e r s d) r O hO) $$ [HO Ht Hp]
  · isplitr; · iexact HI
    isplitl [HO]; · iexact HO
    isplitl [Ht]; · iexact Ht
    isplitl [Hp]; · iexact Hp
    iexact Hr
  iintro HO
  iapply Hk
  iexists W; iexact HO

/-- A wait for the whole of round `r` of an own cell. -/
theorem wait_step (s : SemLoc sig) (r n : ℕ) (O : CellTallies nD τ sig ℕ) {w : TpuEff nD τ sig (Elt F) Λ₀ .tc PUnit}
    (hw : ∀ R : PUnit → sProp 𝕄, wpE (defs₀ (F := F)) 𝒱₀ (c : Thread nD τ) none Set.univ w R = waitSpec (c : Thread nD τ) Set.univ s n R)
    (hn : (rd P).expect ((c : Thread nD τ), s) r = n)
    {k : PUnit.{1} → Prog (TpuEff nD τ sig (Elt F) Λ₀ .tc) PUnit} {Q : PUnit.{1} → sProp 𝕄} :
    iprop(inv P K ((c : Thread nD τ), s) ∗ cred (tallyAt ((c : Thread nD τ), s) r n) ∗ ow c O ∗ MayWait (c : Thread nD τ) s r O
        ∗ atPos ER ((c : Thread nD τ), s) r ∅ 0)
      ⊢ iprop(((ow c O ∗ atPos ER ((c : Thread nD τ), s) (r + 1) ∅ 0 ∗ reached ER ((c : Thread nD τ), s) (r + 1)
            ∗ bigSep ((rd P).duties ((c : Thread nD τ), s) r \ ∅) (fun d => (rd P).payload ((c : Thread nD τ), s) r d))
          -∗ run c (k ⟨⟩) Q) -∗ run c (.op w k) Q) := by
  unfold ow
  iintro ⟨#HI, Hc, ⟨%W, HO⟩, Hm, Ha⟩ Hk
  iapply (Rounds.wp_wait_rest_token 𝒱₀ ER (rd P) (c : Thread nD τ) none (κ := K ((c : Thread nD τ), s))
      hw (Set.mem_univ _) r (O := O) (W := W) (R := r) (m := 0) (T := ∅)
      ((Nat.zero_add n).trans hn.symm)) $$ [Hc HO Hm Ha]
  · isplitr; · iexact HI
    isplitl [Hc]; · iexact Hc
    isplitl [HO]; · iexact HO
    isplitl [Hm]; · iexact Hm
    iexact Ha
  iintro ⟨HO, Ha, Hr, Hp⟩
  iapply Hk
  isplitl [HO]; · iexists _; iexact HO
  isplitl [Ha]; · iexact Ha
  isplitl [Hr]; · iexact Hr
  iexact Hp

/-- The same at a cell with one payer, while still owing: the payload by itself. -/
theorem wait_one (s : SemLoc sig) (r n a b : ℕ) {w : TpuEff nD τ sig (Elt F) Λ₀ .tc PUnit}
    (hw : ∀ R : PUnit → sProp 𝕄, wpE (defs₀ (F := F)) 𝒱₀ (c : Thread nD τ) none Set.univ w R = waitSpec (c : Thread nD τ) Set.univ s n R)
    (hn : (rd P).expect ((c : Thread nD τ), s) r = n) (hs : s ≠ .reg barS) (hr : r < rounds s) (h4 : r < 4)
    (ha : lv ((c : Thread nD τ), s) r < 2 * a + 2) (hb : lv ((c : Thread nD τ), s) r < 2 * b + 3)
    {k : PUnit.{1} → Prog (TpuEff nD τ sig (Elt F) Λ₀ .tc) PUnit} {Q : PUnit.{1} → sProp 𝕄} :
    iprop(inv P K ((c : Thread nD τ), s) ∗ levAts L lv ∗ cred (tallyAt ((c : Thread nD τ), s) r n) ∗ ow c (Orem c a b)
        ∗ atPos ER ((c : Thread nD τ), s) r ∅ 0)
      ⊢ iprop(((ow c (Orem c a b) ∗ atPos ER ((c : Thread nD τ), s) (r + 1) ∅ 0 ∗ reached ER ((c : Thread nD τ), s) (r + 1)
            ∗ (rd P).payload ((c : Thread nD τ), s) r 0)
          -∗ run c (k ⟨⟩) Q) -∗ run c (.op w k) Q) := by
  iintro ⟨#HI, #Hl, Hc, HO, Ha⟩ Hk
  iapply (wait_step P K c s r n (Orem c a b) hw hn) $$ [Hc HO Ha]
  · isplitr; · iexact HI
    isplitl [Hc]; · iexact Hc
    isplitl [HO]; · iexact HO
    isplitr; · iapply (mayWait_rem c s r a b h4 ha hb); iexact Hl
    iexact Ha
  iintro ⟨HO, Ha, Hr, Hp⟩
  ihave Hp := (Entails.of_eq (rest_of P c r s hs hr)) $$ Hp
  iapply Hk
  isplitl [HO]; · iexact HO
  isplitl [Ha]; · iexact Ha
  isplitl [Hr]; · iexact Hr
  iexact Hp

/-! ## Credits -/

/-- Give the left neighbour credit number `r`: the own landing buffer goes with it. -/
theorem give_credit (r b : ℕ) (hr : r < 3) {k : PUnit.{1} → Prog (TpuEff nD τ sig (Elt F) Λ₀ .tc) PUnit} {Q : PUnit.{1} → sProp 𝕄} :
    iprop(inv P K (credCell (prv c)) ∗ ow c (Orem c r b) ∗ dutyTok ER (credCell (prv c)) r 0
        ∗ (∃ f, pt c cc0_scratch1 f) ∗ reached ER (recvCell c) r ∗ reached ER (credCell (prv c)) r)
      ⊢ iprop((ow c (Orem c (r + 1) b) -∗ run c (k ⟨⟩) Q)
        -∗ run c (.op (.semSignal (prv c : Thread nD τ) credS ((1 : ℕ) : ℤ)) k) Q) := by
  iintro ⟨#HI, HO, Ht, Hb, #Hv, #Hr⟩ Hk
  iapply (signal_step P K c (prv c) credS r 0 (Orem c (r + 1) b)
      (pays_one P (prv c) r (.reg credS) (by decide) hr) (Orem_cred c r b hr)) $$ [HO Ht Hb]
  · isplitr; · iexact HI
    isplitl [HO]; · iexact HO
    isplitl [Ht]; · iexact Ht
    isplitl [Hb]
    · rw [payload_cred]; unfold credPay; rw [nxt_prv]
      isplitl [Hb]; · iexact Hb
      iexact Hv
    iexact Hr
  iexact Hk

/-- Wait for credit number `r`: the right neighbour's landing buffer comes. -/
theorem take_credit (r : ℕ) (hr : r < 3) {k : PUnit.{1} → Prog (TpuEff nD τ sig (Elt F) Λ₀ .tc) PUnit} {Q : PUnit.{1} → sProp 𝕄} :
    iprop(inv P K (credCell c) ∗ levAts L lv ∗ cred (tallyAt (credCell c) r 1) ∗ ow c (Orem c (r + 1) r)
        ∗ atPos ER (credCell c) r ∅ 0)
      ⊢ iprop(((ow c (Orem c (r + 1) r) ∗ atPos ER (credCell c) (r + 1) ∅ 0 ∗ reached ER (credCell c) (r + 1)
            ∗ (∃ f, pt (nxt c) cc0_scratch1 f) ∗ reached ER (recvCell (nxt c)) r)
          -∗ run c (k ⟨⟩) Q) -∗ run c (.op (.semWait credS ((1 : ℕ) : ℤ)) k) Q) :=
  wait_one P K c (.reg credS) r 1 (r + 1) r (wpE_semWait_eq 𝒱₀ (c : Thread nD τ) none Set.univ)
    (expect_reg P c r credS (by decide) hr) (by decide) hr (by omega)
    (by show 2 * r + 2 < _; omega) (by show 2 * r + 2 < _; omega)

/-! ## Local copies -/

/-- The local product, cut at one chunk, and put together again. -/
theorem cut_chunk (off : Fin 3 → ℕ) (h : Inb off) (p : Loc3 F) :
    (pt c main_v3 p : sProp 𝕄) ⊢ iprop(ptSl c off h p ∗ (((c : Thread nD τ).loc main_v3) ↦[Finset.univ \ (sl off h).view.set]{fullShare} p)) :=
  (pointsTo_split_subset (Finset.subset_univ _)).1
theorem join_chunk (off : Fin 3 → ℕ) (h : Inb off) (p : Loc3 F) :
    iprop(ptSl c off h p ∗ (((c : Thread nD τ).loc main_v3) ↦[Finset.univ \ (sl off h).view.set]{fullShare} p)) ⊢ (pt c main_v3 p : sProp 𝕄) :=
  (pointsTo_split_subset (Finset.subset_univ _)).2
/-- The local product without the chunk at number `j`. -/
abbrev hole (j : ℕ) : sProp 𝕄 := ((c : Thread nD τ).loc main_v3) ↦[Finset.univ \ (sl (at_ c j) (at_inb c j)).view.set]{fullShare} P c

theorem copy_start0 (off : Fin 3 → ℕ) (h : Inb off) (ho : off = at_ c 0)
    {h1 : (sl off h).view.WordExact} {h2 : (Memref.whole cc0_scratch0 : Memref sig .tc .vmem S4x512x8192 .bf16).view.WordExact}
    {h3 : DmaTarget.Typed (nD := nD) (τ := τ) (p := .tc) .hbm (SemLoc.dma locS : SemLoc sig) (.here (Memref.whole cc0_scratch0))}
    {k : PUnit.{1} → Prog (TpuEff nD τ sig (Elt F) Λ₀ .tc) PUnit} {Q : PUnit.{1} → sProp 𝕄} :
    iprop(inv P K (locCell c) ∗ pt c main_v3 (P c) ∗ (∃ f, pt c cc0_scratch0 f) ∗ dutyTok ER (locCell c) 0 0 ∗ reached ER (locCell c) 0)
      ⊢ iprop(((cred (tallyAt (locCell c) 0 N) ∗ hole P c 0) -∗ run c (k ⟨⟩) Q)
        -∗ run c (.op (.enqueueDma (sl off h) (.here (Memref.whole cc0_scratch0)) (.dma locS) h1 h2 h3) k) Q) := by
  subst ho
  iintro ⟨#HI, Hp, ⟨%f, Hb⟩, Ht, #Hr⟩ Hk
  ihave Hp := (cut_chunk c (at_ c 0) h (P c)) $$ Hp
  icases Hp with ⟨Hs, Hh⟩
  iapply (Rounds.wp_copy_pointsTo 𝒱₀ ER (rd P) (c : Thread nD τ) none (src := sl (at_ c 0) h) (dst := Memref.whole cc0_scratch0)
      (sem := .dma locS) (q := fullShare) (fs := P c) (fd := f) (r := 0) (d := 0) (κ := K (locCell c))
      (pays_one P c 0 (.dma locS) (by decide) (by decide)) 0 N rfl (amount_dma P c 0 locS 0)
      (by
        rw [payload_loc, pt_view]; unfold locPay; rw [if_pos rfl]
        refine sep_mono_left (Entails.of_eq ?_)
        exact congrArg (pt c cc0_scratch0) (View.write_whole_univ _ _ _))) $$ [Hs Hb Ht]
  · isplitr; · iexact HI
    isplitl [Hs]; · iexact Hs
    isplitl [Hb]; · rw [pt_view]; iexact Hb
    isplitl [Ht]; · iexact Ht
    iexact Hr
  iintro Hc
  iapply Hk
  isplitl [Hc]; · iexact Hc
  iexact Hh

/-- Start local copy number `j`, for `j` from 1, into the buffer it is added from. -/
theorem copy_start (j : ℕ) (h0 : j ≠ 0) (hj : j < 4) (off : Fin 3 → ℕ) (h : Inb off) (ho : off = at_ c j)
    {h1 : (sl off h).view.WordExact} {h2 : (Memref.whole cc0_scratch2 : Memref sig .tc .vmem S4x512x8192 .bf16).view.WordExact}
    {h3 : DmaTarget.Typed (nD := nD) (τ := τ) (p := .tc) .hbm (SemLoc.dma locS : SemLoc sig) (.here (Memref.whole cc0_scratch2))}
    {k : PUnit.{1} → Prog (TpuEff nD τ sig (Elt F) Λ₀ .tc) PUnit} {Q : PUnit.{1} → sProp 𝕄} :
    iprop(inv P K (locCell c) ∗ pt c main_v3 (P c) ∗ (∃ f, pt c cc0_scratch2 f) ∗ dutyTok ER (locCell c) j 0 ∗ reached ER (locCell c) j)
      ⊢ iprop(((cred (tallyAt (locCell c) j N) ∗ hole P c j) -∗ run c (k ⟨⟩) Q)
        -∗ run c (.op (.enqueueDma (sl off h) (.here (Memref.whole cc0_scratch2)) (.dma locS) h1 h2 h3) k) Q) := by
  subst ho
  iintro ⟨#HI, Hp, ⟨%f, Hb⟩, Ht, #Hr⟩ Hk
  ihave Hp := (cut_chunk c (at_ c j) h (P c)) $$ Hp
  icases Hp with ⟨Hs, Hh⟩
  iapply (Rounds.wp_copy_pointsTo 𝒱₀ ER (rd P) (c : Thread nD τ) none (src := sl (at_ c j) h) (dst := Memref.whole cc0_scratch2)
      (sem := .dma locS) (q := fullShare) (fs := P c) (fd := f) (r := j) (d := 0) (κ := K (locCell c))
      (pays_one P c j (.dma locS) (by decide) hj) j N rfl (amount_dma P c j locS 0)
      (by
        rw [payload_loc, pt_view]; unfold locPay; rw [if_neg h0]
        refine sep_mono_left (Entails.of_eq ?_)
        exact congrArg (pt c cc0_scratch2) (View.write_whole_univ _ _ _))) $$ [Hs Hb Ht]
  · isplitr; · iexact HI
    isplitl [Hs]; · iexact Hs
    isplitl [Hb]; · rw [pt_view]; iexact Hb
    isplitl [Ht]; · iexact Ht
    iexact Hr
  iintro Hc
  iapply Hk
  isplitl [Hc]; · iexact Hc
  iexact Hh

theorem locPay_eq (j : ℕ) : locPay P c j = iprop((if j = 0 then pt c cc0_scratch0 (ck (P c) c 0) else pt c cc0_scratch2 (ck (P c) c j))
    ∗ ptSl c (at_ c j) (at_inb c j) (P c)) := rfl

/-- Wait for local copy number `j`: its payload, with the local product whole again. -/
theorem copy_wait (j a b : ℕ) (hj : j < 4) {src : Memref sig .tc .hbm S4x512x8192 .bf16}
    {dst : Memref sig .tc .vmem S4x512x8192 .bf16} (hd : dst.view.dmaCredit = N)
    {h1 : src.view.WordExact} {h2 : dst.view.WordExact}
    {k : PUnit.{1} → Prog (TpuEff nD τ sig (Elt F) Λ₀ .tc) PUnit} {Q : PUnit.{1} → sProp 𝕄} :
    iprop(inv P K (locCell c) ∗ levAts L lv ∗ cred (tallyAt (locCell c) j N) ∗ ow c (Orem c a b) ∗ atPos ER (locCell c) j ∅ 0 ∗ hole P c j)
      ⊢ iprop(((ow c (Orem c a b) ∗ atPos ER (locCell c) (j + 1) ∅ 0 ∗ reached ER (locCell c) (j + 1)
            ∗ (if j = 0 then pt c cc0_scratch0 (ck (P c) c 0) else pt c cc0_scratch2 (ck (P c) c j)) ∗ pt c main_v3 (P c))
          -∗ run c (k ⟨⟩) Q)
        -∗ run c (.op (.waitDma2 locS src dst h1 h2) k) Q) := by
  iintro ⟨#HI, #Hl, Hc, HO, Ha, Hh⟩ Hk
  iapply (wait_one P K c (.dma locS) j N a b
      (fun R => (wpE_waitDma2_eq (src := src) (dst := dst) 𝒱₀ (c : Thread nD τ) none Set.univ R).trans (by rw [hd]))
      (expect_dma P c j locS hj) (by decide) hj hj (Nat.succ_pos _) (Nat.succ_pos _)) $$ [Hc HO Ha]
  · isplitr; · iexact HI
    isplitr; · iexact Hl
    isplitl [Hc]; · iexact Hc
    isplitl [HO]; · iexact HO
    iexact Ha
  iintro ⟨HO, Ha, Hr, Hp⟩
  ihave Hp := (Entails.of_eq (payload_loc P c j 0)) $$ Hp
  ihave Hp := (Entails.of_eq (locPay_eq P c j)) $$ Hp
  icases Hp with ⟨Hb, Hs⟩
  iapply Hk
  isplitl [HO]; · iexact HO
  isplitl [Ha]; · iexact Ha
  isplitl [Hr]; · iexact Hr
  isplitl [Hb]; · iexact Hb
  iapply (join_chunk c (at_ c j) (at_inb c j) (P c))
  isplitl [Hs]; · iexact Hs
  iexact Hh

/-! ## The remote copies -/

/-- Send round `r` to the right neighbour. -/
theorem send (r : ℕ) (hr : r < 3)
    {h0 : (Memref.whole cc0_scratch1 : Memref sig .tc .vmem S4x512x8192 .bf16).view.ref.isScScratch = false}
    {h1 : (Memref.whole cc0_scratch0 : Memref sig .tc .vmem S4x512x8192 .bf16).view.WordExact}
    {h2 : (Memref.whole cc0_scratch1 : Memref sig .tc .vmem S4x512x8192 .bf16).view.WordExact}
    {h3 : DmaTarget.Typed (nD := nD) (τ := τ) (p := .tc) .vmem (SemLoc.dma recvS : SemLoc sig)
      (.remote (nxt c : Thread nD τ) (Memref.whole cc0_scratch1) (.dma sendS) h0)}
    {k : PUnit.{1} → Prog (TpuEff nD τ sig (Elt F) Λ₀ .tc) PUnit} {Q : PUnit.{1} → sProp 𝕄} :
    iprop(inv P K (sendCell c) ∗ inv P K (recvCell (nxt c)) ∗ pt c cc0_scratch0 (part P r c) ∗ (∃ f, pt (nxt c) cc0_scratch1 f)
        ∗ reached ER (credCell c) (r + 1) ∗ ow c (Orem c (r + 1) r) ∗ dutyTok ER (sendCell c) r 0 ∗ reached ER (sendCell c) r
        ∗ dutyTok ER (recvCell (nxt c)) r 0 ∗ reached ER (recvCell (nxt c)) r)
      ⊢ iprop(((cred (tallyAt (sendCell c) r N) ∗ ow c (Orem c (r + 1) (r + 1))) -∗ run c (k ⟨⟩) Q)
        -∗ run c (.op (.enqueueDma (Memref.whole cc0_scratch0) (.remote (nxt c : Thread nD τ) (Memref.whole cc0_scratch1) (.dma sendS) h0)
            (.dma recvS) h1 h2 h3) k) Q) := by
  unfold ow
  iintro ⟨#HI, #HI', Hs, ⟨%f, Hb⟩, #Hc1, ⟨%W, HO⟩, Ht, #Hr, Ht', #Hr'⟩ Hk
  iapply (Rounds.wp_send_pointsTo_with 𝒱₀ ER (rd P) (c : Thread nD τ) none (c' := (nxt c : Thread nD τ))
      (src := Memref.whole cc0_scratch0) (dst := Memref.whole cc0_scratch1) (sS := .dma sendS) (sem := .dma recvS) (q := fullShare)
      (fs := part P r c) (fd := f) (F := reached ER (credCell c) (r + 1)) (κ₁ := K (sendCell c)) (κ₂ := K (recvCell (nxt c)))
      (r₁ := r) (r₂ := r) (d₁ := 0) (d₂ := 0)
      (pays_one P c r (.dma sendS) (by decide) hr) (pays_one P (nxt c) r (.dma recvS) (by decide) hr) r r N rfl
      (amount_dma P c r sendS 0) (amount_dma P (nxt c) r recvS 0) (Orem c (r + 1) (r + 1)) (Orem_recv c (r + 1) r hr) (W := W)
      (by rw [payload_send, pt_view]; exact BI.Entails.refl _)
      (by
        rw [payload_recv, pt_view]; unfold recvPay; rw [prv_nxt]
        refine sep_mono_left (Entails.of_eq ?_)
        exact congrArg (pt (nxt c) cc0_scratch1) (View.write_whole_univ _ _ _))) $$ [Hs Hb HO Ht Ht']
  · isplitr; · iexact HI
    isplitr; · iexact HI'
    isplitl [Hs]; · rw [pt_view]; iexact Hs
    isplitl [Hb]
    · isplitl [Hb]; · rw [pt_view]; iexact Hb
      iexact Hc1
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

/-- Wait for the own send of round `r`: the sending buffer comes back. -/
theorem send_wait (r : ℕ) (hr : r < 3) {src dst : Memref sig .tc .vmem S4x512x8192 .bf16} (hd : dst.view.dmaCredit = N)
    {h1 : src.view.WordExact} {h2 : dst.view.WordExact}
    {k : PUnit.{1} → Prog (TpuEff nD τ sig (Elt F) Λ₀ .tc) PUnit} {Q : PUnit.{1} → sProp 𝕄} :
    iprop(inv P K (sendCell c) ∗ levAts L lv ∗ cred (tallyAt (sendCell c) r N) ∗ ow c (Orem c (r + 1) (r + 1)) ∗ atPos ER (sendCell c) r ∅ 0)
      ⊢ iprop(((ow c (Orem c (r + 1) (r + 1)) ∗ atPos ER (sendCell c) (r + 1) ∅ 0 ∗ reached ER (sendCell c) (r + 1)
            ∗ pt c cc0_scratch0 (part P r c))
          -∗ run c (k ⟨⟩) Q)
        -∗ run c (.op (.waitDma2 sendS src dst h1 h2) k) Q) :=
  wait_one P K c (.dma sendS) r N (r + 1) (r + 1)
    (fun R => (wpE_waitDma2_eq (src := src) (dst := dst) 𝒱₀ (c : Thread nD τ) none Set.univ R).trans (by rw [hd]))
    (expect_dma P c r sendS hr) (by decide) hr (by omega) (Nat.succ_pos _) (Nat.succ_pos _)

/-- Wait for the landing of round `r`: the left neighbour's partial sum. -/
theorem recv_wait (r : ℕ) (hr : r < 3) {src dst : Memref sig .tc .vmem S4x512x8192 .bf16} (hd : dst.view.dmaCredit = N)
    {h1 : src.view.WordExact} {h2 : dst.view.WordExact}
    {k : PUnit.{1} → Prog (TpuEff nD τ sig (Elt F) Λ₀ .tc) PUnit} {Q : PUnit.{1} → sProp 𝕄} :
    iprop(inv P K (recvCell c) ∗ levAts L lv ∗ cred (tallyAt (recvCell c) r N) ∗ ow c (Orem c (r + 1) (r + 1)) ∗ atPos ER (recvCell c) r ∅ 0)
      ⊢ iprop(((ow c (Orem c (r + 1) (r + 1)) ∗ atPos ER (recvCell c) (r + 1) ∅ 0 ∗ reached ER (recvCell c) (r + 1)
            ∗ pt c cc0_scratch1 (part P r (prv c)) ∗ reached ER (credCell (prv c)) (r + 1))
          -∗ run c (k ⟨⟩) Q)
        -∗ run c (.op (.waitDma2 recvS src dst h1 h2) k) Q) :=
  wait_one P K c (.dma recvS) r N (r + 1) (r + 1)
    (fun R => (wpE_waitDma2_eq (src := src) (dst := dst) 𝒱₀ (c : Thread nD τ) none Set.univ R).trans (by rw [hd]))
    (expect_dma P c r recvS hr) (by decide) hr (by omega) (by show 2 * r + 3 < _; omega) (by show 2 * r + 3 < _; omega)

/-! ## The addition -/

/-- The rectangle of a whole chunk buffer. -/
abbrev allR : Rect S4x512x8192 := Rect.unit (s := S4x512x8192) ![0, 0, 0] S4x512x8192.size inb_S4x512x8192_S4x512x8192_0_0_0
theorem zero_off : (![0, 0, 0] : Fin 3 → ℕ) = fun _ => 0 := funext fun a => by fin_cases a <;> rfl

/-- What a load of a whole chunk buffer reads, and what a store over it leaves. -/
theorem read0 (f : Blk F) : (Memref.whole cc0_scratch0).view.readAt (Elt F) allR.toLoadRect f = f :=
  Memref.readAt_unit_zero (Elt F) cc0_scratch0 zero_off _ f
theorem read1 (f : Blk F) : (Memref.whole cc0_scratch1).view.readAt (Elt F) allR.toLoadRect f = f :=
  Memref.readAt_unit_zero (Elt F) cc0_scratch1 zero_off _ f
theorem read2 (f : Blk F) : (Memref.whole cc0_scratch2).view.readAt (Elt F) allR.toLoadRect f = f :=
  Memref.readAt_unit_zero (Elt F) cc0_scratch2 zero_off _ f
theorem written0 (f w : Blk F) :
    ((Memref.whole cc0_scratch0).access allR : View sig .tc _ _ _).write (Elt F) f w Finset.univ = w :=
  Memref.write_access_unit_zero_univ (Elt F) cc0_scratch0 zero_off _ f w

theorem pay2_eq : k0_pay2 (F := F) = k0_pay1 := rfl
theorem pay3_eq : k0_pay3 (F := F) = k0_pay1 := rfl

/-- Add the own chunk to what landed: three loads, the third unused, and the store. -/
theorem add_step (f g h : Blk F)
    {l2 : (Memref.whole cc0_scratch2 : Memref sig .tc .vmem S4x512x8192 .bf16).view.LoadsAt allR.toLoadRect}
    {l1 : (Memref.whole cc0_scratch1 : Memref sig .tc .vmem S4x512x8192 .bf16).view.LoadsAt allR.toLoadRect}
    {l0 : (Memref.whole cc0_scratch0 : Memref sig .tc .vmem S4x512x8192 .bf16).view.LoadsAt allR.toLoadRect}
    {hx : ((Memref.whole cc0_scratch0 : Memref sig .tc .vmem S4x512x8192 .bf16).access allR).Stores Finset.univ}
    {hm : Finset.univ = Finset.univ ∨ ∀ a, allR.stride a = 1}
    {k : PUnit.{1} → Prog (TpuEff nD τ sig (Elt F) Λ₀ .tc) PUnit} {Q : PUnit.{1} → sProp 𝕄} :
    iprop(pt c cc0_scratch2 f ∗ pt c cc0_scratch1 g ∗ pt c cc0_scratch0 h)
      ⊢ iprop(((pt c cc0_scratch2 f ∗ pt c cc0_scratch1 g ∗ pt c cc0_scratch0 (k0_pay1 f g)) -∗ run c (k ⟨⟩) Q)
        -∗ run c (.op (.load (Memref.whole cc0_scratch2) allR.toLoadRect l2) fun x =>
            .op (.load (Memref.whole cc0_scratch1) allR.toLoadRect l1) fun y =>
            .op (.load (Memref.whole cc0_scratch0) allR.toLoadRect l0) fun _ =>
            .op (.store (Memref.whole cc0_scratch0) allR (k0_pay1 x y) Finset.univ hx hm) k) Q) := by
  iintro ⟨H2, H1, H0⟩ Hk
  iapply (wp_load 𝒱₀ (c : Thread nD τ) none Set.univ (m := Memref.whole cc0_scratch2) (Finset.subset_univ _)) $$ H2
  iintro H2
  rw [read2]
  iapply (wp_load 𝒱₀ (c : Thread nD τ) none Set.univ (m := Memref.whole cc0_scratch1) (Finset.subset_univ _)) $$ H1
  iintro H1
  rw [read1]
  iapply (wp_load 𝒱₀ (c : Thread nD τ) none Set.univ (m := Memref.whole cc0_scratch0) (Finset.subset_univ _)) $$ H0
  iintro H0
  iapply (wp_store 𝒱₀ (c : Thread nD τ) none Set.univ (m := Memref.whole cc0_scratch0) (r := allR) (Mk := Finset.univ)
    (Finset.subset_univ _)) $$ H0
  iintro H0
  rw [written0]
  iapply Hk
  isplitl [H2]; · iexact H2
  isplitl [H1]; · iexact H1
  iexact H0

/-! ## The copy of the result -/

theorem out_start
    {h1 : (Memref.whole cc0_scratch0 : Memref sig .tc .vmem S4x512x8192 .bf16).view.WordExact}
    {h2 : (Memref.whole main_v4 : Memref sig .tc .hbm S4x512x8192 .bf16).view.WordExact}
    {h3 : DmaTarget.Typed (nD := nD) (τ := τ) (p := .tc) .vmem (SemLoc.dma outS : SemLoc sig) (.here (Memref.whole main_v4))}
    {k : PUnit.{1} → Prog (TpuEff nD τ sig (Elt F) Λ₀ .tc) PUnit} {Q : PUnit.{1} → sProp 𝕄} :
    iprop(inv P K (outCell c) ∗ pt c cc0_scratch0 (part P 3 c) ∗ (∃ f, pt c main_v4 f) ∗ dutyTok ER (outCell c) 0 0 ∗ reached ER (outCell c) 0)
      ⊢ iprop((cred (tallyAt (outCell c) 0 N) -∗ run c (k ⟨⟩) Q)
        -∗ run c (.op (.enqueueDma (Memref.whole cc0_scratch0) (.here (Memref.whole main_v4)) (.dma outS) h1 h2 h3) k) Q) := by
  iintro ⟨#HI, Hs, ⟨%f, Hb⟩, Ht, #Hr⟩ Hk
  iapply (Rounds.wp_copy_pointsTo 𝒱₀ ER (rd P) (c : Thread nD τ) none (src := Memref.whole cc0_scratch0) (dst := Memref.whole main_v4)
      (sem := .dma outS) (q := fullShare) (fs := part P 3 c) (fd := f) (r := 0) (d := 0) (κ := K (outCell c))
      (pays_one P c 0 (.dma outS) (by decide) (by decide)) 0 N rfl (amount_dma P c 0 outS 0)
      (by
        rw [payload_out, pt_view, pt_view]; unfold outPay
        refine sep_mono_left (Entails.of_eq ?_)
        exact congrArg (pt c main_v4) (View.write_whole_univ _ _ _))) $$ [Hs Hb Ht]
  · isplitr; · iexact HI
    isplitl [Hs]; · rw [pt_view]; iexact Hs
    isplitl [Hb]; · rw [pt_view]; iexact Hb
    isplitl [Ht]; · iexact Ht
    iexact Hr
  iexact Hk

theorem out_wait {src : Memref sig .tc .vmem S4x512x8192 .bf16} {dst : Memref sig .tc .hbm S4x512x8192 .bf16} (hd : dst.view.dmaCredit = N)
    {h1 : src.view.WordExact} {h2 : dst.view.WordExact}
    {k : PUnit.{1} → Prog (TpuEff nD τ sig (Elt F) Λ₀ .tc) PUnit} {Q : PUnit.{1} → sProp 𝕄} :
    iprop(inv P K (outCell c) ∗ levAts L lv ∗ cred (tallyAt (outCell c) 0 N) ∗ ow c (Orem c 3 3) ∗ atPos ER (outCell c) 0 ∅ 0)
      ⊢ iprop(((ow c (Orem c 3 3) ∗ atPos ER (outCell c) 1 ∅ 0 ∗ reached ER (outCell c) 1
            ∗ pt c main_v4 (part P 3 c) ∗ pt c cc0_scratch0 (part P 3 c))
          -∗ run c (k ⟨⟩) Q)
        -∗ run c (.op (.waitDma2 outS src dst h1 h2) k) Q) :=
  wait_one P K c (.dma outS) 0 N 3 3
    (fun R => (wpE_waitDma2_eq (src := src) (dst := dst) 𝒱₀ (c : Thread nD τ) none Set.univ R).trans (by rw [hd]))
    (expect_dma P c 0 outS (by decide)) (by decide) (by decide) (by decide) (Nat.succ_pos _) (Nat.succ_pos _)

/-! ## Closing a cell -/

/-- A cell all of whose rounds are over gives its counter back, at zero. -/
theorem close_cell (s : SemLoc sig) (r : ℕ) (hr : rounds s ≤ r) :
    iprop(inv P K ((c : Thread nD τ), s) ∗ atPos ER ((c : Thread nD τ), s) r ∅ 0)
      ⊢ (|={Set.univ}=> semVal ((c : Thread nD τ), s) 0 : sProp 𝕄) :=
  Rounds.cell_close ER (rd P) (Set.mem_univ _) id (fun r' hr' => duties_end P r' s (c : Thread nD τ) (hr.trans hr'))

end Cert.KernelIdeal.RS

end
-- ==== Proof.Body.lean ====
/- The kernel body on one device: one round of the ring, and the whole run. -/
module

public import proofs.«01_k».proof.Proof.Steps

@[expose] public section

noncomputable section

namespace Cert.KernelIdeal.RS

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

variable (P : Dev nD → Loc3 F) (K : GSem nD τ sig → ℕ) (c : Dev nD)

/-! ## What the body starts from, holds between rounds and ends with -/

/-- The invariants that a device's own waits need. -/
def ownInvs : sProp 𝕄 := iprop(inv P K (barCell c) ∗ inv P K (credCell c) ∗ inv P K (sendCell c) ∗ inv P K (recvCell c)
  ∗ inv P K (locCell c) ∗ inv P K (outCell c))
/-- The invariants of the neighbours' cells that a device pays into. -/
def nbrInvs : sProp 𝕄 := iprop(inv P K (barCell (prv c)) ∗ inv P K (barCell (nxt c)) ∗ inv P K (credCell (prv c)) ∗ inv P K (recvCell (nxt c)))

instance ownInvs_persistent : BI.Persistent (ownInvs P K c) := by unfold ownInvs; infer_instance
instance nbrInvs_persistent : BI.Persistent (nbrInvs P K c) := by unfold nbrInvs; infer_instance

/-- Where the device stands in its ring cells at the start of round `r`. -/
def places (r : ℕ) : sProp 𝕄 := iprop(atPos ER (credCell c) r ∅ 0 ∗ atPos ER (sendCell c) r ∅ 0 ∗ atPos ER (recvCell c) r ∅ 0
  ∗ atPos ER (locCell c) (r + 1) ∅ 0)
/-- Which rounds are known to be reached then. -/
def marks (r : ℕ) : sProp 𝕄 := iprop(reached ER (sendCell c) r ∗ reached ER (recvCell c) r ∗ reached ER (locCell c) (r + 1)
  ∗ reached ER (credCell (prv c)) r)

instance marks_persistent (r : ℕ) : BI.Persistent (marks (F := F) c r) := by unfold marks; infer_instance

/-- The payments of round `r` other than its credit, and the credits of its waits. -/
def pays (r : ℕ) : sProp 𝕄 := iprop((dutyTok ER (sendCell c) r 0 ∗ dutyTok ER (recvCell (nxt c)) r 0 ∗ dutyTok ER (locCell c) (r + 1) 0)
  ∗ cred (tallyAt (credCell c) r 1) ∗ cred (tallyAt (recvCell c) r N))

/-- Between rounds: the partial sum in the sending buffer, the two other buffers free. -/
def between (r : ℕ) : sProp 𝕄 := iprop(ow c (Orem c r r) ∗ pt c cc0_scratch0 (part P r c) ∗ (∃ f, pt c cc0_scratch1 f)
  ∗ (∃ f, pt c cc0_scratch2 f) ∗ pt c main_v3 (P c) ∗ places c r ∗ marks c r)
/-- The same once the landing buffer has been given to the left neighbour. -/
def lent (r : ℕ) : sProp 𝕄 := iprop(ow c (Orem c (r + 1) r) ∗ pt c cc0_scratch0 (part P r c)
  ∗ (∃ f, pt c cc0_scratch2 f) ∗ pt c main_v3 (P c) ∗ places c r ∗ marks c r)

/-- The credit at the head of a round. -/
theorem lend (r : ℕ) (hr : r < 3) {k : PUnit.{1} → Prog (TpuEff nD τ sig (Elt F) Λ₀ .tc) PUnit} {Q : PUnit.{1} → sProp 𝕄} :
    iprop(nbrInvs P K c ∗ between P c r ∗ dutyTok ER (credCell (prv c)) r 0)
      ⊢ iprop((lent P c r -∗ run c (k ⟨⟩) Q)
        -∗ run c (.op (.semSignal (prv c : Thread nD τ) credS ((1 : ℕ) : ℤ)) k) Q) := by
  unfold nbrInvs between lent marks
  iintro ⟨⟨-, -, #HIc, -⟩, ⟨HO, H0, H1, H2, H3, Hp, ⟨#Hm1, #Hm2, #Hm3, #Hm4⟩⟩, Ht⟩ Hk
  iapply (give_credit P K c r r hr) $$ [HO Ht H1]
  · isplitr; · iexact HIc
    isplitl [HO]; · iexact HO
    isplitl [Ht]; · iexact Ht
    isplitl [H1]; · iexact H1
    isplitr; · iexact Hm2
    iexact Hm4
  iintro HO
  iapply Hk
  isplitl [HO]; · iexact HO
  isplitl [H0]; · iexact H0
  isplitl [H2]; · iexact H2
  isplitl [H3]; · iexact H3
  isplitl [Hp]; · iexact Hp
  isplitr; · iexact Hm1
  isplitr; · iexact Hm2
  isplitr; · iexact Hm3
  iexact Hm4

/-- ONE ROUND after its credit: start the local copy of the next chunk, wait for the right neighbour's credit, send, wait for
    the send, the landing and the local copy, and add. -/
theorem round (r : ℕ) (hr : r < 3) (off : Fin 3 → ℕ) (h : Inb off) (ho : off = at_ c (r + 1)) (e : Dev nD) (he : e = nxt c)
    {src2 : Memref sig .tc .hbm S4x512x8192 .bf16}
    {h1 : (sl off h).view.WordExact} {h2 : (Memref.whole cc0_scratch2 : Memref sig .tc .vmem S4x512x8192 .bf16).view.WordExact}
    {h3 : DmaTarget.Typed (nD := nD) (τ := τ) (p := .tc) .hbm (SemLoc.dma locS : SemLoc sig) (.here (Memref.whole cc0_scratch2))}
    {h0 : (Memref.whole cc0_scratch1 : Memref sig .tc .vmem S4x512x8192 .bf16).view.ref.isScScratch = false}
    {h4 : (Memref.whole cc0_scratch0 : Memref sig .tc .vmem S4x512x8192 .bf16).view.WordExact}
    {h5 : (Memref.whole cc0_scratch1 : Memref sig .tc .vmem S4x512x8192 .bf16).view.WordExact}
    {h6 : DmaTarget.Typed (nD := nD) (τ := τ) (p := .tc) .vmem (SemLoc.dma recvS : SemLoc sig)
      (.remote (e : Thread nD τ) (Memref.whole cc0_scratch1) (.dma sendS) h0)}
    {h7 : src2.view.WordExact}
    {l2 : (Memref.whole cc0_scratch2 : Memref sig .tc .vmem S4x512x8192 .bf16).view.LoadsAt allR.toLoadRect}
    {l1 : (Memref.whole cc0_scratch1 : Memref sig .tc .vmem S4x512x8192 .bf16).view.LoadsAt allR.toLoadRect}
    {l0 : (Memref.whole cc0_scratch0 : Memref sig .tc .vmem S4x512x8192 .bf16).view.LoadsAt allR.toLoadRect}
    {hx : ((Memref.whole cc0_scratch0 : Memref sig .tc .vmem S4x512x8192 .bf16).access allR).Stores Finset.univ}
    {hm : Finset.univ = Finset.univ ∨ ∀ a, allR.stride a = 1}
    {k : PUnit.{1} → Prog (TpuEff nD τ sig (Elt F) Λ₀ .tc) PUnit} {Q : PUnit.{1} → sProp 𝕄} :
    iprop((ownInvs P K c ∗ nbrInvs P K c ∗ levAts L lv) ∗ lent P c r ∗ pays c r)
      ⊢ iprop((between P c (r + 1) -∗ run c (k ⟨⟩) Q)
        -∗ run c (.op (.enqueueDma (sl off h) (.here (Memref.whole cc0_scratch2)) (.dma locS) h1 h2 h3) fun _ =>
            .op (.semWait credS ((1 : ℕ) : ℤ)) fun _ =>
            .op (.enqueueDma (Memref.whole cc0_scratch0) (.remote (e : Thread nD τ) (Memref.whole cc0_scratch1) (.dma sendS) h0)
              (.dma recvS) h4 h5 h6) fun _ =>
            .op (.waitDma2 sendS (Memref.whole cc0_scratch1) (Memref.whole cc0_scratch0) h5 h4) fun _ =>
            .op (.waitDma2 recvS (Memref.whole cc0_scratch0) (Memref.whole cc0_scratch1) h4 h5) fun _ =>
            .op (.waitDma2 locS src2 (Memref.whole cc0_scratch2) h7 h2) fun _ =>
            .op (.load (Memref.whole cc0_scratch2) allR.toLoadRect l2) fun x =>
            .op (.load (Memref.whole cc0_scratch1) allR.toLoadRect l1) fun y =>
            .op (.load (Memref.whole cc0_scratch0) allR.toLoadRect l0) fun _ =>
            .op (.store (Memref.whole cc0_scratch0) allR (k0_pay1 x y) Finset.univ hx hm) k) Q) := by
  subst he
  unfold ownInvs nbrInvs lent pays places marks
  iintro ⟨⟨⟨-, #Ic, #Is, #Iv, #Il, -⟩, ⟨-, -, -, #Ivn⟩, #Hl⟩, ⟨HO, H0, H2, H3, ⟨Pc, Ps, Pv, Pl⟩, ⟨#Ms, #Mv, #Ml, #Mc⟩⟩,
    ⟨⟨Ts, Tv, Tl⟩, Cc, Cv⟩⟩ Hk
  iapply (copy_start P K c (r + 1) (Nat.succ_ne_zero r) (by omega) off h ho) $$ [H3 H2 Tl]
  · isplitr; · iexact Il
    isplitl [H3]; · iexact H3
    isplitl [H2]; · iexact H2
    isplitl [Tl]; · iexact Tl
    iexact Ml
  iintro ⟨Cl, Hh⟩
  iapply (take_credit P K c r hr) $$ [Cc HO Pc]
  · isplitr; · iexact Ic
    isplitr; · iexact Hl
    isplitl [Cc]; · iexact Cc
    isplitl [HO]; · iexact HO
    iexact Pc
  iintro ⟨HO, Pc, #Mc1, Hb, #Mvn⟩
  iapply (send P K c r hr) $$ [H0 Hb HO Ts Tv]
  · isplitr; · iexact Is
    isplitr; · iexact Ivn
    isplitl [H0]; · iexact H0
    isplitl [Hb]; · iexact Hb
    isplitr; · iexact Mc1
    isplitl [HO]; · iexact HO
    isplitl [Ts]; · iexact Ts
    isplitr; · iexact Ms
    isplitl [Tv]; · iexact Tv
    iexact Mvn
  iintro ⟨Cs, HO⟩
  iapply (send_wait P K c r hr credit_scratch0) $$ [Cs HO Ps]
  · isplitr; · iexact Is
    isplitr; · iexact Hl
    isplitl [Cs]; · iexact Cs
    isplitl [HO]; · iexact HO
    iexact Ps
  iintro ⟨HO, Ps, #Ms1, H0⟩
  iapply (recv_wait P K c r hr (dst := Memref.whole cc0_scratch1) rfl) $$ [Cv HO Pv]
  · isplitr; · iexact Iv
    isplitr; · iexact Hl
    isplitl [Cv]; · iexact Cv
    isplitl [HO]; · iexact HO
    iexact Pv
  iintro ⟨HO, Pv, #Mv1, H1, #Mcn⟩
  iapply (copy_wait P K c (r + 1) (r + 1) (r + 1) (by omega) credit_scratch2) $$ [Cl HO Pl Hh]
  · isplitr; · iexact Il
    isplitr; · iexact Hl
    isplitl [Cl]; · iexact Cl
    isplitl [HO]; · iexact HO
    isplitl [Pl]; · iexact Pl
    iexact Hh
  iintro ⟨HO, Pl, #Ml1, H2, H3⟩
  ihave H2 := (Entails.of_eq (if_neg (Nat.succ_ne_zero r))) $$ H2
  iapply (add_step c (ck (P c) c (r + 1)) (part P r (prv c)) (part P r c)) $$ [H2 H1 H0]
  · isplitl [H2]; · iexact H2
    isplitl [H1]; · iexact H1
    iexact H0
  iintro ⟨H2, H1, H0⟩
  iapply Hk
  unfold between places marks
  isplitl [HO]; · iexact HO
  isplitl [H0]; · iexact H0
  isplitl [H1]; · iexists _; iexact H1
  isplitl [H2]; · iexists _; iexact H2
  isplitl [H3]; · iexact H3
  isplitl [Pc Ps Pv Pl]
  · isplitl [Pc]; · iexact Pc
    isplitl [Ps]; · iexact Ps
    isplitl [Pv]; · iexact Pv
    iexact Pl
  isplitr; · iexact Ms1
  isplitr; · iexact Mv1
  isplitr; · iexact Ml1
  iexact Mcn

/-! ## The whole body -/

/-- The rights to pay that a device holds at launch. -/
def toks : sProp 𝕄 := iprop((dutyTok ER (barCell (prv c)) 0 1 ∗ dutyTok ER (barCell (nxt c)) 0 0)
  ∗ (dutyTok ER (credCell (prv c)) 0 0 ∗ dutyTok ER (credCell (prv c)) 1 0 ∗ dutyTok ER (credCell (prv c)) 2 0)
  ∗ (dutyTok ER (recvCell (nxt c)) 0 0 ∗ dutyTok ER (recvCell (nxt c)) 1 0 ∗ dutyTok ER (recvCell (nxt c)) 2 0)
  ∗ (dutyTok ER (sendCell c) 0 0 ∗ dutyTok ER (sendCell c) 1 0 ∗ dutyTok ER (sendCell c) 2 0)
  ∗ (dutyTok ER (locCell c) 0 0 ∗ dutyTok ER (locCell c) 1 0 ∗ dutyTok ER (locCell c) 2 0 ∗ dutyTok ER (locCell c) 3 0)
  ∗ dutyTok ER (outCell c) 0 0)
/-- The credits of the waits for what the neighbours pay. -/
def creds : sProp 𝕄 := iprop(cred (tallyAt (barCell c) 0 2)
  ∗ (cred (tallyAt (credCell c) 0 1) ∗ cred (tallyAt (credCell c) 1 1) ∗ cred (tallyAt (credCell c) 2 1))
  ∗ (cred (tallyAt (recvCell c) 0 N) ∗ cred (tallyAt (recvCell c) 1 N) ∗ cred (tallyAt (recvCell c) 2 N)))
/-- The positions in the six cells, all open, and the neighbours' barriers known to be open. -/
def opened : sProp 𝕄 := iprop(atPos ER (barCell c) 0 ∅ 0 ∗ (reached ER (barCell (prv c)) 0 ∗ reached ER (barCell (nxt c)) 0)
  ∗ (atPos ER (credCell c) 0 ∅ 0 ∗ reached ER (credCell c) 0) ∗ (atPos ER (sendCell c) 0 ∅ 0 ∗ reached ER (sendCell c) 0)
  ∗ (atPos ER (recvCell c) 0 ∅ 0 ∗ reached ER (recvCell c) 0) ∗ (atPos ER (locCell c) 0 ∅ 0 ∗ reached ER (locCell c) 0)
  ∗ (atPos ER (outCell c) 0 ∅ 0 ∗ reached ER (outCell c) 0))
/-- The three chunk buffers, at contents not chosen. -/
def scratch : sProp 𝕄 := iprop((∃ f, pt c cc0_scratch0 f) ∗ (∃ f, pt c cc0_scratch1 f) ∗ (∃ f, pt c cc0_scratch2 f))
/-- The counters of the five cells that the kernel owns, at zero. -/
def counters : sProp 𝕄 := iprop(semVal (credCell c) 0 ∗ semVal (sendCell c) 0 ∗ semVal (recvCell c) 0 ∗ semVal (locCell c) 0
  ∗ semVal (outCell c) 0)

def before : sProp 𝕄 := iprop((ownInvs P K c ∗ nbrInvs P K c ∗ levAts L lv) ∗ opened c ∗ toks c ∗ creds c ∗ scratch c
  ∗ pt c main_v3 (P c) ∗ (∃ f, pt c main_v4 f) ∗ ow c (O₀ c))
def afterwards : sProp 𝕄 := iprop(semVal (barCell c) 0 ∗ counters c ∗ scratch c ∗ pt c main_v3 (P c) ∗ pt c main_v4 (part P 3 c) ∗ ow c 0)

theorem one_int : (1#32 : BitVec 32).toInt = ((1 : ℕ) : ℤ) := by decide
theorem two_int : (2#32 : BitVec 32).toInt = ((2 : ℕ) : ℤ) := by decide
theorem sem3 : SemArray.sem cc0_scratch3 = sendS := rfl
theorem sem4 : SemArray.sem cc0_scratch4 = recvS := rfl
theorem sem5 : SemArray.sem cc0_scratch5 = locS := rfl
theorem sem6 : SemArray.sem cc0_scratch6 = outS := rfl
theorem sem7 : SemArray.sem cc0_scratch7 = credS := rfl

theorem body_run (Q : PUnit.{1} → sProp 𝕄) :
    iprop(before P K c ∗ (afterwards P c -∗ Q ⟨⟩)) ⊢ run c (bodyAt0 t0_0) Q := by
  unfold bodyAt0
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, Prog.bind_assoc, wp_deviceId]
  simp only [one_int, two_int, dev1_left, dev2_right, dev3_left, dev4_right, dev5_left, dev6_right, dev7_left, dev8_right,
    sem3, sem4, sem5, sem6, sem7, pay2_eq, pay3_eq]
  unfold before opened toks creds scratch
  iintro ⟨⟨⟨#Io, #In, #Hl⟩, ⟨Pb, ⟨#Mbp, #Mbn⟩, ⟨Pc, #Mc⟩, ⟨Ps, #Ms⟩, ⟨Pv, #Mv⟩, ⟨Pl, #Ml⟩, ⟨Po, #Mo⟩⟩,
    ⟨⟨Tbp, Tbn⟩, ⟨Tc0, Tc1, Tc2⟩, ⟨Tv0, Tv1, Tv2⟩, ⟨Ts0, Ts1, Ts2⟩, ⟨Tl0, Tl1, Tl2, Tl3⟩, To⟩,
    ⟨Cb, ⟨Cc0, Cc1, Cc2⟩, ⟨Cv0, Cv1, Cv2⟩⟩, ⟨H0, H1, H2⟩, H3, H4, HO⟩, HQ⟩
  ihave #Io' := (show ownInvs P K c ⊢ _ from by unfold ownInvs; exact BI.Entails.refl _) $$ Io
  ihave #In' := (show nbrInvs P K c ⊢ _ from by unfold nbrInvs; exact BI.Entails.refl _) $$ In
  icases Io' with ⟨#Ib, #Ic, #Is, #Iv, #Il, #Iout⟩
  icases In' with ⟨#Ibp, #Ibn, #Icp, #Ivn⟩
  -- the barrier: a signal to either neighbour, and the wait for both
  iapply (signal_step P K c (prv c) barS 0 1 (Obar c) (by rw [duties_bar]; exact Finset.mem_univ _) rfl) $$ [HO Tbp]
  · isplitr; · iexact Ibp
    isplitl [HO]; · iexact HO
    isplitl [Tbp]; · iexact Tbp
    isplitr; · rw [payload_bar]; unfold barPay; rw [if_neg (by decide)]; iempintro
    iexact Mbp
  iintro HO
  iapply (signal_step P K c (nxt c) barS 0 0 (Orem c 0 0) (by rw [duties_bar]; exact Finset.mem_univ _) rfl) $$ [HO Tbn]
  · isplitr; · iexact Ibn
    isplitl [HO]; · iexact HO
    isplitl [Tbn]; · iexact Tbn
    isplitr; · rw [payload_bar]; unfold barPay; rw [if_pos rfl, prv_nxt]; iexact Mc
    iexact Mbn
  iintro HO
  iapply (wait_step P K c (.reg barS) 0 2 (Orem c 0 0) (wpE_semWait_eq 𝒱₀ (c : Thread nD τ) none Set.univ) (expect_bar P c)) $$ [Cb HO Pb]
  · isplitr; · iexact Ib
    isplitl [Cb]; · iexact Cb
    isplitl [HO]; · iexact HO
    isplitr; · iapply (mayWait_rem c (.reg barS) 0 0 0 (by decide) (by show 1 < 2 * 0 + 2; decide) (by show 1 < 2 * 0 + 3; decide)); iexact Hl
    iexact Pb
  iintro ⟨HO, Pb, -, Hp⟩
  ihave Hp := (Entails.of_eq (rest_bar P c)) $$ Hp
  icases Hp with ⟨#Mcp, -⟩
  -- the first credit, and the first chunk
  iapply (give_credit P K c 0 0 (by decide)) $$ [HO Tc0 H1]
  · isplitr; · iexact Icp
    isplitl [HO]; · iexact HO
    isplitl [Tc0]; · iexact Tc0
    isplitl [H1]; · iexact H1
    isplitr; · iexact Mv
    iexact Mcp
  iintro HO
  iapply (copy_start0 P K c (k0_off1 c 1#32) _ (off1_0 c)) $$ [H3 H0 Tl0]
  · isplitr; · iexact Il
    isplitl [H3]; · iexact H3
    isplitl [H0]; · iexact H0
    isplitl [Tl0]; · iexact Tl0
    iexact Ml
  iintro ⟨Cl, Hh⟩
  iapply (copy_wait P K c 0 1 0 (by decide) credit_scratch0) $$ [Cl HO Pl Hh]
  · isplitr; · iexact Il
    isplitr; · iexact Hl
    isplitl [Cl]; · iexact Cl
    isplitl [HO]; · iexact HO
    isplitl [Pl]; · iexact Pl
    iexact Hh
  iintro ⟨HO, Pl, #Ml1, H0, H3⟩
  ihave H0 := (Entails.of_eq (if_pos rfl)) $$ H0
  -- the three rounds
  iapply (round P K c 0 (by decide) (k0_off1 c 2#32) _ (off1_1 c) _ (dev4_right c)) $$ [HO H0 H2 H3 Pc Ps Pv Pl Ts0 Tv0 Tl1 Cc0 Cv0]
  · isplitr
    · isplitr; · iexact Io
      isplitr; · iexact In
      iexact Hl
    isplitl [HO H0 H2 H3 Pc Ps Pv Pl]
    · unfold lent places marks
      isplitl [HO]; · iexact HO
      isplitl [H0]; · iexact H0
      isplitl [H2]; · iexact H2
      isplitl [H3]; · iexact H3
      isplitl [Pc Ps Pv Pl]
      · isplitl [Pc]; · iexact Pc
        isplitl [Ps]; · iexact Ps
        isplitl [Pv]; · iexact Pv
        iexact Pl
      isplitr; · iexact Ms
      isplitr; · iexact Mv
      isplitr; · iexact Ml1
      iexact Mcp
    unfold pays
    isplitl [Ts0 Tv0 Tl1]
    · isplitl [Ts0]; · iexact Ts0
      isplitl [Tv0]; · iexact Tv0
      iexact Tl1
    isplitl [Cc0]; · iexact Cc0
    iexact Cv0
  iintro HB
  iapply (lend P K c 1 (by decide)) $$ [HB Tc1]
  · isplitr; · iexact In
    isplitl [HB]; · iexact HB
    iexact Tc1
  iintro HB
  iapply (round P K c 1 (by decide) (k0_off2 c 8#32 2#32 1#32) _ (off2_1 c) _ (dev6_right c)) $$ [HB Ts1 Tv1 Tl2 Cc1 Cv1]
  · isplitr
    · isplitr; · iexact Io
      isplitr; · iexact In
      iexact Hl
    isplitl [HB]; · iexact HB
    unfold pays
    isplitl [Ts1 Tv1 Tl2]
    · isplitl [Ts1]; · iexact Ts1
      isplitl [Tv1]; · iexact Tv1
      iexact Tl2
    isplitl [Cc1]; · iexact Cc1
    iexact Cv1
  iintro HB
  iapply (lend P K c 2 (by decide)) $$ [HB Tc2]
  · isplitr; · iexact In
    isplitl [HB]; · iexact HB
    iexact Tc2
  iintro HB
  iapply (round P K c 2 (by decide) (k0_off2 c 8#32 2#32 2#32) _ (off2_3 c) _ (dev8_right c)) $$ [HB Ts2 Tv2 Tl3 Cc2 Cv2]
  · isplitr
    · isplitr; · iexact Io
      isplitr; · iexact In
      iexact Hl
    isplitl [HB]; · iexact HB
    unfold pays
    isplitl [Ts2 Tv2 Tl3]
    · isplitl [Ts2]; · iexact Ts2
      isplitl [Tv2]; · iexact Tv2
      iexact Tl3
    isplitl [Cc2]; · iexact Cc2
    iexact Cv2
  unfold between places
  iintro ⟨HO, H0, H1, H2, H3, ⟨Pc, Ps, Pv, Pl⟩, -⟩
  -- the result leaves
  iapply (out_start P K c) $$ [H0 H4 To]
  · isplitr; · iexact Iout
    isplitl [H0]; · iexact H0
    isplitl [H4]; · iexact H4
    isplitl [To]; · iexact To
    iexact Mo
  iintro Co
  iapply (out_wait P K c credit_out) $$ [Co HO Po]
  · isplitr; · iexact Iout
    isplitr; · iexact Hl
    isplitl [Co]; · iexact Co
    isplitl [HO]; · iexact HO
    iexact Po
  iintro ⟨HO, Po, -, H4, H0⟩
  -- every round of every cell is over: close them all
  unfold run; rw [wp_ret]
  imod (close_cell P K c (.reg barS) 1 (by decide)) $$ [Pb] with Vb
  · isplitr; · iexact Ib
    iexact Pb
  imod (close_cell P K c (.reg credS) 3 (by decide)) $$ [Pc] with Vc
  · isplitr; · iexact Ic
    iexact Pc
  imod (close_cell P K c (.dma sendS) 3 (by decide)) $$ [Ps] with Vs
  · isplitr; · iexact Is
    iexact Ps
  imod (close_cell P K c (.dma recvS) 3 (by decide)) $$ [Pv] with Vv
  · isplitr; · iexact Iv
    iexact Pv
  imod (close_cell P K c (.dma locS) 4 (by decide)) $$ [Pl] with Vl
  · isplitr; · iexact Il
    iexact Pl
  imod (close_cell P K c (.dma outS) 1 (by decide)) $$ [Po] with Vo
  · isplitr; · iexact Iout
    iexact Po
  imodintro
  iapply HQ
  unfold afterwards counters scratch
  isplitl [Vb]; · iexact Vb
  isplitl [Vc Vs Vv Vl Vo]
  · isplitl [Vc]; · iexact Vc
    isplitl [Vs]; · iexact Vs
    isplitl [Vv]; · iexact Vv
    isplitl [Vl]; · iexact Vl
    iexact Vo
  isplitl [H0 H1 H2]
  · isplitl [H0]; · iexists _; iexact H0
    isplitl [H1]; · iexact H1
    iexact H2
  isplitl [H3]; · iexact H3
  isplitl [H4]; · iexact H4
  rw [Orem_end]; iexact HO

end Cert.KernelIdeal.RS

end
-- ==== Proof.Region.lean ====
/- The kernel call as a region of the program: what it is entered with, what it keeps, and what it leaves. -/
module

public import proofs.«01_k».proof.Proof.Body
public import proofs.«01_k».proof.Proof.Gen.KernelIdeal.Frame

@[expose] public section

noncomputable section

namespace Cert.KernelIdeal.RS

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## Contents of a device's buffers along the program -/

abbrev V₀ (c : Dev nD) : Valuation τ sig (Elt F) := fun b => m (c, b)
abbrev V₁ (c : Dev nD) : Valuation τ sig (Elt F) := StableHlo.after hostOps0 (V₀ m c)
/-- Every device's local product. -/
def prod (c : Dev nD) : Loc3 F := V₁ m c main_v3
abbrev V₂ (c : Dev nD) : Valuation τ sig (Elt F) := Function.update (V₁ m c) (Proc.devRef .tc main_v4) (part (prod m) 3 c)
abbrev V₃ (c : Dev nD) : Valuation τ sig (Elt F) := StableHlo.after hostOps1 (V₂ m c)

theorem V₂_v4 (c : Dev nD) : V₂ m c main_v4 = part (prod m) 3 c := Function.update_self ..
theorem V₂_ne (c : Dev nD) (b : DevRef τ sig) (h : b ≠ Proc.devRef .tc main_v4) : V₂ m c b = V₁ m c b := Function.update_of_ne h ..

/-- The two buffers that the kernel body addresses in main memory. -/
def touched : Finset (DevRef τ sig) := {Proc.devRef .tc main_v3, Proc.devRef .tc main_v4}
theorem touched_sub : touched ⊆ Pipeline.ucRefs τ sig := by decide
theorem touched_eq (c : Dev nD) (W : Valuation τ sig (Elt F)) : (StableHlo.held (c : Thread nD τ) touched W : sProp 𝕄)
    = iprop(pt c main_v3 (W main_v3) ∗ pt c main_v4 (W main_v4)) := by
  unfold StableHlo.held
  rw [bigSep_eq_bigSepL_of_eq [Proc.devRef .tc main_v3, Proc.devRef .tc main_v4] (by decide) (by decide)]
  rfl

/-! ## The kernel's own semaphores -/

abbrev osem : Fin 5 → SemLoc sig := fun | 0 => .reg credS | 1 => .dma sendS | 2 => .dma recvS | 3 => .dma locS | 4 => .dma outS
theorem counters_eq (c : Dev nD) : (Pipeline.ownSems0 osem c : sProp 𝕄) = counters c :=
  Pipeline.ownSems0_eq_of_list c osem [0, 1, 2, 3, 4] (by decide) (by decide)
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]
theorem unscoped_eq : ∀ sm : SemLoc sig, sm.isScoped .tc = false → sm = .reg barS := by decide

/-! ## Before and after the cells are opened -/

/-- From launch to the kernel call: the invariants, the barrier's position, the rights to open the own five cells, and the
    rights to pay. -/
def dormant (K : GSem nD τ sig → ℕ) (c : Dev nD) : sProp 𝕄 := iprop((ownInvs (prod m) K c ∗ nbrInvs (prod m) K c)
  ∗ (atPos ER (barCell c) 0 ∅ 0 ∗ (reached ER (barCell (prv c)) 0 ∗ reached ER (barCell (nxt c)) 0)
    ∗ openTok ER (credCell c) ∗ openTok ER (sendCell c) ∗ openTok ER (recvCell c) ∗ openTok ER (locCell c) ∗ openTok ER (outCell c))
  ∗ toks c)
def kept (c : Dev nD) : sProp 𝕄 := iprop((∃ K, dormant m K c) ∗ creds c)
/-- The same with the cells open. -/
def ready (K : GSem nD τ sig → ℕ) (c : Dev nD) : sProp 𝕄 :=
  iprop((ownInvs (prod m) K c ∗ nbrInvs (prod m) K c ∗ levAts L lv) ∗ opened c ∗ toks c ∗ creds c)

/-- Open one own cell, whose counter is at zero. -/
theorem open_cell (P : Dev nD → Loc3 F) (K : GSem nD τ sig → ℕ) (c : Dev nD) (s : SemLoc sig) :
    iprop(inv P K ((c : Thread nD τ), s) ∗ openTok ER ((c : Thread nD τ), s) ∗ semVal ((c : Thread nD τ), s) 0)
      ⊢ (|={Set.univ}=> (atPos ER ((c : Thread nD τ), s) 0 ∅ 0 ∗ reached ER ((c : Thread nD τ), s) 0) : sProp 𝕄) :=
  Rounds.cell_open ER (rd P) (g := ((c : Thread nD τ), s)) (Set.mem_univ _)

theorem open_all (c : Dev nD) : iprop(kept m c ∗ Pipeline.ownSems0 osem c ∗ levAts L lv) ⊢ (|={Set.univ}=> (∃ K, ready m K c) : sProp 𝕄) := by
  rw [counters_eq]
  unfold kept counters dormant ready
  iintro ⟨⟨⟨%K, ⟨#Io, #In⟩, ⟨Pb, ⟨#Mp, #Mn⟩, Oc, Os, Ov, Ol, Oo⟩, T⟩, C⟩, ⟨Vc, Vs, Vv, Vl, Vo⟩, #Hl⟩
  ihave #Io' := (show ownInvs (prod m) K c ⊢ _ from by unfold ownInvs; exact BI.Entails.refl _) $$ Io
  icases Io' with ⟨#Ib, #Ic, #Is, #Iv, #Il, #Iout⟩
  imod (open_cell (prod m) K c (.reg credS)) $$ [Oc Vc] with ⟨Pc, #Mc⟩
  · isplitr; · iexact Ic
    isplitl [Oc] <;> iassumption
  imod (open_cell (prod m) K c (.dma sendS)) $$ [Os Vs] with ⟨Ps, #Ms⟩
  · isplitr; · iexact Is
    isplitl [Os] <;> iassumption
  imod (open_cell (prod m) K c (.dma recvS)) $$ [Ov Vv] with ⟨Pv, #Mv⟩
  · isplitr; · iexact Iv
    isplitl [Ov] <;> iassumption
  imod (open_cell (prod m) K c (.dma locS)) $$ [Ol Vl] with ⟨Pl, #Ml⟩
  · isplitr; · iexact Il
    isplitl [Ol] <;> iassumption
  imod (open_cell (prod m) K c (.dma outS)) $$ [Oo Vo] with ⟨Po, #Mo⟩
  · isplitr; · iexact Iout
    isplitl [Oo] <;> iassumption
  imodintro
  iexists K
  isplitr
  · isplitr; · iexact Io
    isplitr; · iexact In
    iexact Hl
  isplitl [Pb Pc Ps Pv Pl Po]
  · unfold opened
    isplitl [Pb]; · iexact Pb
    isplitr
    · isplitr; · iexact Mp
      iexact Mn
    isplitl [Pc]; · isplitl [Pc] <;> iassumption
    isplitl [Ps]; · isplitl [Ps] <;> iassumption
    isplitl [Pv]; · isplitl [Pv] <;> iassumption
    isplitl [Pl]; · isplitl [Pl] <;> iassumption
    isplitl [Po] <;> iassumption
  isplitl [T] <;> iassumption

/-! ## The proof data -/

def inside0 (c : Dev nD) : sProp 𝕄 :=
  iprop((∃ K, ready m K c) ∗ scratch c ∗ (pt c main_v3 (prod m c) ∗ ∃ f, pt c main_v4 f) ∗ ∃ r, prngReg c r)
def inside1 (c : Dev nD) : sProp 𝕄 :=
  iprop(semVal (barCell c) 0 ∗ counters c ∗ scratch c ∗ (pt c main_v3 (prod m c) ∗ pt c main_v4 (part (prod m) 3 c)) ∗ ∃ r, prngReg c r)

def dat (c : Dev nD) : Pipeline.Dat τ (Elt F) ℕ ℕ UU ℕ cfg0 c where
  A w := w.elim0
  after w := w.elim0
  Φ t := if t.val = 0 then inside0 m c else inside1 m c
  q w := w.elim0
  owed t := if t.val = 0 then O₀ c else 0

abbrev adm : (p : Fin 1) → (pcfgs (F := F) p).Adm := fun p => (cfgs p).toPCfg_adm
def pdats : (p : Fin 1) → (c : Dev nD) → Pipeline.Dat τ (Elt F) ℕ ℕ UU ℕ (Pipeline.pin (pcfgs (F := F)) adm p) c
  | 0 => dat m

theorem bigSep_W {M : Type} [URA M] (Φ : Fin 0 → sProp M) : bigSep Finset.univ Φ = (BI.emp : sProp M) :=
  bigSep_univ_eq_bigSepL [] (by decide) (by decide) Φ

theorem owed_start (c : Dev nD) : (pdats (F := F) m 0 c).owed 0 = O₀ c := by
  show (if ((0 : Fin (cfg0.N + 1)).val = 0) then O₀ c else 0) = O₀ c; exact if_pos rfl
theorem owed_first (c : Dev nD) : (dat (F := F) m c).owed t0_0.castSucc = O₀ c := by
  show (if (t0_0.castSucc : Fin (cfg0.N + 1)).val = 0 then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

theorem owesAt_intro (c : Dev nD) (t : Fin (cfg0.N + 1)) (O : CellTallies nD τ sig ℕ) (h0 : (dat (F := F) m c).owed t = O) :
    (ow c O : sProp 𝕄) ⊢ ((dat m c).owesAt 0 t : sProp 𝕄) := by
  unfold ow Dat.owesAt Pipeline.owesWithin Dat.bound; rw [h0]
  iintro ⟨%W, HO⟩; iexists W; isplitr; · ipureintro; exact fun _ _ => Or.inl trivial
  iexact HO
theorem owesAt_elim (c : Dev nD) (t : Fin (cfg0.N + 1)) (O : CellTallies nD τ sig ℕ) (h0 : (dat (F := F) m c).owed t = O) :
    ((dat m c).owesAt 0 t : sProp 𝕄) ⊢ ow c O := by
  unfold ow Dat.owesAt Pipeline.owesWithin; rw [h0]
  iintro ⟨%W, -, HO⟩; iexists W; iexact HO

theorem body_obligation (c : Dev nD) : BodyObligation (dat (F := F) m c) defs₀ 𝒱₀ 0 Set.univ := fun t => by
  obtain rfl := fin_N0 t
  rw [bigSep_W, bigSep_W]
  rw [show (dat m c).Φ t0_0.castSucc = inside0 m c from rfl, show (dat m c).Φ t0_0.succ = inside1 m c from rfl]
  unfold inside0 inside1 ready
  iintro ⟨⟨⟨%K, Hi, Hop, Ht, Hc⟩, Hs, ⟨H3, H4⟩, Hreg⟩, HO, -⟩
  ihave HO := (owesAt_elim m c _ (O₀ c) (owed_first m c)) $$ HO
  iapply (body_run (prod m) K c _)
  isplitl [Hi Hop Ht Hc Hs H3 H4 HO]
  · unfold before
    isplitl [Hi]; · iexact Hi
    isplitl [Hop]; · iexact Hop
    isplitl [Ht]; · iexact Ht
    isplitl [Hc]; · iexact Hc
    isplitl [Hs]; · iexact Hs
    isplitl [H3]; · iexact H3
    isplitl [H4]; · iexact H4
    iexact HO
  unfold afterwards
  iintro ⟨Vb, Vs, Hs, H3, H4, HO⟩
  isplitr [HO]
  · isplitl [Vb]; · iexact Vb
    isplitl [Vs]; · iexact Vs
    isplitl [Hs]; · iexact Hs
    isplitl [H3 H4]; · isplitl [H3] <;> iassumption
    iexact Hreg
  isplitl [HO]; · iapply (owesAt_intro m c t0_0.succ 0 (owed_last m c)); iexact HO
  iempintro

/-! ## The region -/

theorem scoped_eq (c : Dev nD) :
    (Pipeline.scopedRest (Ix := ℕ) (Name := ℕ) (U := UU) (Lvl := ℕ) (Val := Elt F) (Pipeline.pin (pcfgs (F := F)) adm 0).spec c : sProp 𝕄) = scratch c :=
  scopedRest0_eq c

theorem enter (c : Dev nD) : iprop(Pipeline.scopedRest (Pipeline.pin (pcfgs (F := F)) adm 0).spec c ∗ (∃ r, prngReg c r)
      ∗ StableHlo.held (c.tc : Thread nD τ) touched (V₁ m c) ∗ (∃ K, ready m K c))
    ⊢ (pdats m 0 c).Φ 0 := by
  rw [show (pdats m 0 c).Φ 0 = inside0 m c from rfl, scoped_eq, touched_eq]
  unfold inside0
  iintro ⟨Hs, Hp, ⟨H3, H4⟩, HK⟩
  isplitl [HK]; · iexact HK
  isplitl [Hs]; · iexact Hs
  isplitl [H3 H4]
  · isplitl [H3]; · iexact H3
    iexists _; iexact H4
  iexact Hp

theorem leave (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) touched (V₂ m c) ∗ Pipeline.ownSems0 osem c ∗ semVal (barCell c) 0) := by
  rw [show (pdats m 0 c).Φ (Fin.last _) = inside1 m c from rfl, counters_eq, scoped_eq, touched_eq, V₂_v4,
    V₂_ne m c main_v3 (by decide)]
  unfold inside1
  iintro ⟨Vb, Vs, Hs, ⟨H3, H4⟩, Hp⟩
  isplitl [Hs]; · iexact Hs
  isplitl [Hp]; · iexact Hp
  isplitl [H3 H4]
  · isplitl [H3]; · iexact H3
    iexact H4
  isplitl [Vs]; · iexact Vs
  iexact Vb

theorem owed_pos {c : Dev nD} {g : GSem nD τ sig} {i : ℕ} (h : 0 < O₀ c g i) : i ∈ L g ∧ 0 < lv g i := by
  unfold O₀ Obar Orem at h
  simp only [Pi.add_apply, Finsupp.add_apply] at h
  rcases Nat.add_pos_iff_pos_or_pos.mp h with h | h
  · rcases Nat.add_pos_iff_pos_or_pos.mp h with h | h
    · rcases Nat.add_pos_iff_pos_or_pos.mp h with h | h
      · obtain ⟨rfl, hi⟩ := owed_sum h
        rw [Finset.mem_Ico] at hi
        exact ⟨by rw [L_tc, Finset.mem_range]; omega, Nat.succ_pos _⟩
      · obtain ⟨rfl, hi⟩ := owed_sum h
        rw [Finset.mem_Ico] at hi
        exact ⟨by rw [L_tc, Finset.mem_range]; omega, Nat.succ_pos _⟩
    · obtain ⟨rfl, rfl⟩ := owed_of_pos h
      exact ⟨by rw [L_tc, Finset.mem_range]; decide, Nat.one_pos⟩
  · obtain ⟨rfl, rfl⟩ := owed_of_pos h
    exact ⟨by rw [L_tc, Finset.mem_range]; decide, Nat.one_pos⟩

theorem cut (c : Dev nD) (t : Fin ((Pipeline.pin (pcfgs (F := F)) adm 0).N + 1)) (g : GSem nD τ sig) (i : ℕ)
    (h : 0 < (pdats (F := F) m 0 c).owed t g i) : i ∈ L g ∧ (0 : ℕ) < lv g i := by
  have e : (pdats (F := F) m 0 c).owed t = if t.val = 0 then O₀ c else 0 := rfl
  rw [e] at h
  split at h
  · exact owed_pos h
  · exact absurd h (Nat.lt_irrefl 0)

local notation "ℍ" => Pipeline.HostSeg (Name := ℕ) (U := UU) (pcfgs (F := F)) defs₀ 𝒱₀ L lv
local notation "ℝ𝕊" => Pipeline.RegionSeg (pcfgs (F := F)) adm (pdats m) (0 : ℕ) defs₀ 𝒱₀ L lv

set_option backward.isDefEq.respectTransparency.types false in
def reg0 : ℝ𝕊 0 :=
  Pipeline.RegionSeg.ofTalk (pcfgs (F := F)) adm (pdats m) (0 : ℕ) defs₀ 𝒱₀ L lv 0 osem (by decide : Pipeline.OwnSemFacts cfg0.spec osem)
    touched (Pipeline.ucRefs τ sig) touched_sub launch0.toP rfl (fun c => (body_obligation m c).loose)
    (fun _ => 0) O₀ (fun c => (owed_start m c).trans (zero_add _).symm) (owed_last m) (fun _ => rfl) (fun _ w => w.elim0)
    (V₁ m) (V₂ m) (fun c b hb => V₂_ne m c b (fun h => (Finset.mem_sdiff.mp hb).2 (by rw [h]; decide)))
    (kept m) (fun c => semVal (barCell c) 0) (fun c => iprop(∃ K, ready m K c)) (fun c => semVal (barCell c) 0)
    (open_all m) (enter m) (leave m)
    (fun c => by iintro H; imodintro; iexact H)
    (fun _ => 0)
    ⟨fun _ w => w.elim0, fun _ w => w.elim0, fun c t g i h => cut m c t g i h⟩
    (fun _ => iprop(emp))
    (fun _ w => w.elim0) (fun _ w => w.elim0)

theorem held_arr (c : Dev nD) (W : Valuation τ sig (Elt F)) :
    (StableHlo.held (c.tc : Thread nD τ) (Pipeline.arrRefs (τ := τ) (pcfgs (F := F) 0).spec) W : sProp 𝕄) = BI.emp := by
  have : Pipeline.arrRefs (τ := τ) (pcfgs (F := F) 0).spec = ∅ := by
    unfold Pipeline.arrRefs
    rw [Finset.map_eq_empty, Finset.image_eq_empty, Finset.univ_eq_empty]
  rw [this]
  unfold StableHlo.held
  exact BI.bigSep_empty

/-- What rides beside the buffers before the call, and after it. -/
def ride (c : Dev nD) : sProp 𝕄 := iprop(kept m c ∗ (∃ r, prngReg c r) ∗ ow c (O₀ c))
def rest (c : Dev nD) : sProp 𝕄 := iprop(semVal (barCell c) 0 ∗ ow c 0)

theorem reg0_pre (c : Dev nD) : iprop(StableHlo.held (c : Thread nD τ) (Pipeline.ucRefs τ sig) (V₁ m c) ∗ ride m c) ⊢ (reg0 m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) (Pipeline.ucRefs τ sig) (V₁ m c) ∗ emp) ∗ kept m c ∗ ∃ Wd, owes (c : Thread nD τ) (0 + O₀ c) Wd)
  rw [held_arr, zero_add]
  unfold ride ow
  iintro ⟨Hh, HK, Hp, HO⟩
  isplitr; · iempintro
  isplitl [Hp]; · iexact Hp
  isplitl [Hh]
  · isplitl [Hh]; · iexact Hh
    iempintro
  isplitl [HK]; · iexact HK
  iexact HO

theorem reg0_post (c : Dev nD) : (reg0 m).post c
    ⊢ iprop(StableHlo.held (c : Thread nD τ) (Pipeline.ucRefs τ sig) (V₂ m c) ∗ rest c) := by
  show iprop(StableHlo.held (c.tc : Thread nD τ) (Pipeline.arrRefs (τ := τ) (pcfgs (F := F) 0).spec) (V₂ m c) ∗ (∃ r, prngReg c r)
    ∗ (StableHlo.held (c.tc : Thread nD τ) (Pipeline.ucRefs τ sig) (V₂ m c) ∗ emp) ∗ semVal (barCell c) 0
    ∗ ∃ Wd, owes (c : Thread nD τ) (0 : CellTallies nD τ sig ℕ) Wd) ⊢ _
  rw [held_arr]
  unfold rest ow
  iintro ⟨-, -, ⟨Hh, -⟩, Hb, HO⟩
  isplitl [Hh]; · iexact Hh
  isplitl [Hb]; · iexact Hb
  iexact HO

/-- The host operations before and after the call. -/
def seg0 : ℍ := Pipeline.HostSeg.ofOps _ _ _ _ _ (Pipeline.ucRefs τ sig) hostOps0
  (fun op h => Pipeline.sub_ucRefs op (List.forall_iff_forall_mem.mp hostOps0_sub op h))
  (fun op h => List.forall_iff_forall_mem.mp hostOps0_fresh op h) (V₀ m) (ride m)
def seg1 : ℍ := Pipeline.HostSeg.ofOps _ _ _ _ _ (Pipeline.ucRefs τ sig) hostOps1
  (fun op h => Pipeline.sub_ucRefs op (List.forall_iff_forall_mem.mp hostOps1_sub op h))
  (fun op h => List.forall_iff_forall_mem.mp hostOps1_fresh op h) (V₂ m) rest

def segs : List (Pipeline.Seg (pcfgs (F := F)) adm (pdats m) (0 : ℕ) defs₀ 𝒱₀ L lv) :=
  [.host (seg0 m), .region (reg0 m), .host (seg1 m)]

theorem main_eq (c : Dev nD) : main (F := F) c = Pipeline.Seg.run (segs m) :=
  main_segs adm (pdats m) (0 : ℕ) 𝒱₀ L lv (seg0 m) (seg1 m) (reg0 m) rfl rfl c

end Cert.KernelIdeal.RS

end
-- ==== Proof.Launch.lean ====
/- The launch: every cell's invariant is allocated, every right to pay goes to the device that pays, and the program runs. -/
module

public import proofs.«01_k».proof.Proof.Region

@[expose] public section

noncomputable section

namespace Cert.KernelIdeal.RS

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The cells and the rights to pay -/

theorem osem_inj : Function.Injective osem := by decide
theorem osem_ne_bar : ∀ k : Fin 5, osem k ≠ .reg barS := by decide

def barEmb : Dev nD ↪ GSem nD τ sig := ⟨fun c => barCell c, fun _ _ h => congrArg (fun g : GSem nD τ sig => g.1.1) h⟩
def ownEmb : Dev nD × Fin 5 ↪ GSem nD τ sig :=
  ⟨fun ck => ((ck.1 : Thread nD τ), osem ck.2), fun _ _ h =>
    Prod.ext (congrArg (fun g : GSem nD τ sig => g.1.1) h) (osem_inj (congrArg Prod.snd h))⟩

abbrev barCells : Finset (GSem nD τ sig) := Finset.univ.map barEmb
abbrev ownCells : Finset (GSem nD τ sig) := Finset.univ.map ownEmb

/-- All payments into one device's cells: semaphore, round, payer. -/
abbrev dues : Fin 16 → SemLoc sig × ℕ × Fin 2 := ![(.reg barS, 0, 1), (.reg barS, 0, 0),
  (.reg credS, 0, 0), (.reg credS, 1, 0), (.reg credS, 2, 0), (.dma recvS, 0, 0), (.dma recvS, 1, 0), (.dma recvS, 2, 0),
  (.dma sendS, 0, 0), (.dma sendS, 1, 0), (.dma sendS, 2, 0),
  (.dma locS, 0, 0), (.dma locS, 1, 0), (.dma locS, 2, 0), (.dma locS, 3, 0), (.dma outS, 0, 0)]
theorem dues_inj : Function.Injective dues := by decide
def dueEmb : Dev nD × Fin 16 ↪ GSem nD τ sig × ℕ × Fin 2 :=
  ⟨fun ck => (((ck.1 : Thread nD τ), (dues ck.2).1), (dues ck.2).2), fun _ _ h =>
    Prod.ext (congrArg (fun t : GSem nD τ sig × ℕ × Fin 2 => t.1.1.1) h)
      (dues_inj (Prod.ext (congrArg (fun t : GSem nD τ sig × ℕ × Fin 2 => t.1.2) h) (congrArg (fun t : GSem nD τ sig × ℕ × Fin 2 => t.2) h)))⟩
def allDues : Finset (GSem nD τ sig × ℕ × Fin 2) := Finset.univ.map dueEmb

theorem disjoint_cells : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem bar_mem (c : Dev nD) : barCell c ∈ (barCells ∪ ownCells : Finset (GSem nD τ sig)) :=
  Finset.mem_union_left _ (Finset.mem_map_of_mem barEmb (Finset.mem_univ c))
theorem own_mem (c : Dev nD) (k : Fin 5) : ((c : Thread nD τ), osem k) ∈ (barCells ∪ ownCells : Finset (GSem nD τ sig)) :=
  Finset.mem_union_right _ (Finset.mem_map_of_mem ownEmb (Finset.mem_univ (c, k)))

def u₀ : UU :=
  (initOf (Pipeline.cells (Pipeline.pin (pcfgs (F := F)) adm) cellOf_inj) (Pipeline.launchToks (Pipeline.pin (pcfgs (F := F)) adm) cellOf_inj),
    launchOf barCells ownCells allDues)

/-- The protocol's launch element, kept on device 0 until it is dealt. -/
def G (c : Dev nD) : sProp 𝕄 := if c = 0 then BI.own (ER (launchOf barCells ownCells allDues)) else iprop(emp)
theorem bigSep_G : bigSep Finset.univ (G (F := F)) = BI.own (ER (launchOf barCells ownCells allDues)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## Dealing -/

def records (κ : GSem nD τ sig → ℕ) : sProp 𝕄 :=
  iprop((bigSep (barCells ∪ ownCells) fun g => cellInv ER (rd (prod m)) (κ g) g) ∗ bigSep barCells fun g => reached ER g 0)
instance records_persistent (κ : GSem nD τ sig → ℕ) : BI.Persistent (records m κ) := by unfold records; infer_instance

theorem inv_at (κ : GSem nD τ sig → ℕ) {g : GSem nD τ sig} (hg : g ∈ (barCells ∪ ownCells : Finset (GSem nD τ sig))) :
    (bigSep (barCells ∪ ownCells) fun g => (cellInv ER (rd (prod m)) (κ g) g : sProp 𝕄)) ⊢ inv (prod m) κ g :=
  bigSep_elim hg
theorem reached_at (c : Dev nD) : (bigSep barCells fun g => (reached ER g 0 : sProp 𝕄)) ⊢ reached ER (barCell c) 0 :=
  bigSep_elim (Finset.mem_map_of_mem barEmb (Finset.mem_univ c))

/-- The rights to open a device's five cells. -/
def keys (c : Dev nD) : sProp 𝕄 := iprop(openTok ER (credCell c) ∗ openTok ER (sendCell c) ∗ openTok ER (recvCell c)
  ∗ openTok ER (locCell c) ∗ openTok ER (outCell c))
theorem keys_eq : bigSep ownCells (fun g => (openTok ER g : sProp 𝕄)) = bigSep Finset.univ fun c : Dev nD => keys c := by
  rw [bigSep_map, bigSep_univ_prod]
  refine bigSep_congr fun c _ => ?_
  rw [bigSep_univ_eq_bigSepL [0, 1, 2, 3, 4] (by decide) (by decide)]
  rfl

/-- What stays with device `c`. -/
def linear (c : Dev nD) : sProp 𝕄 := iprop(atPos ER (barCell c) 0 ∅ 0 ∗ keys c ∗ toks c)

theorem dormant_intro (κ : GSem nD τ sig → ℕ) (c : Dev nD) : iprop(records m κ ∗ linear c) ⊢ iprop(∃ K, dormant m K c) := by
  unfold records linear dormant keys ownInvs nbrInvs
  iintro ⟨⟨#HI, #HR⟩, Ha, Ho, Ht⟩
  iexists κ
  isplitr
  · isplitr
    · isplitr; · iapply (inv_at m κ (bar_mem c)); iexact HI
      isplitr; · iapply (inv_at m κ (own_mem c 0)); iexact HI
      isplitr; · iapply (inv_at m κ (own_mem c 1)); iexact HI
      isplitr; · iapply (inv_at m κ (own_mem c 2)); iexact HI
      isplitr; · iapply (inv_at m κ (own_mem c 3)); iexact HI
      iapply (inv_at m κ (own_mem c 4)); iexact HI
    isplitr; · iapply (inv_at m κ (bar_mem (prv c))); iexact HI
    isplitr; · iapply (inv_at m κ (bar_mem (nxt c))); iexact HI
    isplitr; · iapply (inv_at m κ (own_mem (prv c) 0)); iexact HI
    iapply (inv_at m κ (own_mem (nxt c) 2)); iexact HI
  isplitr [Ht]
  · isplitl [Ha]; · iexact Ha
    isplitr
    · isplitr; · iapply (reached_at (F := F) (prv c)); iexact HR
      iapply (reached_at (F := F) (nxt c)); iexact HR
    iexact Ho
  iexact Ht

/-! The rights to pay into device `c`'s cells, by who gets them. -/
def dBarL (c : Dev nD) : sProp 𝕄 := dutyTok ER (barCell c) 0 1
def dBarR (c : Dev nD) : sProp 𝕄 := dutyTok ER (barCell c) 0 0
def dCred (c : Dev nD) : sProp 𝕄 := iprop(dutyTok ER (credCell c) 0 0 ∗ dutyTok ER (credCell c) 1 0 ∗ dutyTok ER (credCell c) 2 0)
def dRecv (c : Dev nD) : sProp 𝕄 := iprop(dutyTok ER (recvCell c) 0 0 ∗ dutyTok ER (recvCell c) 1 0 ∗ dutyTok ER (recvCell c) 2 0)
def dOwn (c : Dev nD) : sProp 𝕄 := iprop((dutyTok ER (sendCell c) 0 0 ∗ dutyTok ER (sendCell c) 1 0 ∗ dutyTok ER (sendCell c) 2 0)
  ∗ (dutyTok ER (locCell c) 0 0 ∗ dutyTok ER (locCell c) 1 0 ∗ dutyTok ER (locCell c) 2 0 ∗ dutyTok ER (locCell c) 3 0)
  ∗ dutyTok ER (outCell c) 0 0)

theorem toks_own (c : Dev nD) : (bigSep Finset.univ fun k : Fin 16 => (dutyTok ER ((c : Thread nD τ), (dues k).1) (dues k).2.1 (dues k).2.2 : sProp 𝕄))
    ⊢ iprop((dBarL c ∗ dBarR c) ∗ dCred c ∗ dRecv c ∗ dOwn c) := by
  rw [bigSep_univ_eq_bigSepL [0, 1, 2, 3, 4, 5, 6, 7, 8, 9, 10, 11, 12, 13, 14, 15] (by decide) (by decide)]
  show iprop(dutyTok ER (barCell c) 0 1 ∗ dutyTok ER (barCell c) 0 0
    ∗ dutyTok ER (credCell c) 0 0 ∗ dutyTok ER (credCell c) 1 0 ∗ dutyTok ER (credCell c) 2 0
    ∗ dutyTok ER (recvCell c) 0 0 ∗ dutyTok ER (recvCell c) 1 0 ∗ dutyTok ER (recvCell c) 2 0
    ∗ dutyTok ER (sendCell c) 0 0 ∗ dutyTok ER (sendCell c) 1 0 ∗ dutyTok ER (sendCell c) 2 0
    ∗ dutyTok ER (locCell c) 0 0 ∗ dutyTok ER (locCell c) 1 0 ∗ dutyTok ER (locCell c) 2 0 ∗ dutyTok ER (locCell c) 3 0
    ∗ dutyTok ER (outCell c) 0 0) ⊢ _
  unfold dBarL dBarR dCred dRecv dOwn
  iintro ⟨B1, B0, C0, C1, C2, V0, V1, V2, S0, S1, S2, L0, L1, L2, L3, Z⟩
  isplitl [B1 B0]; · isplitl [B1] <;> iassumption
  isplitl [C0 C1 C2]
  · isplitl [C0]; · iexact C0
    isplitl [C1] <;> iassumption
  isplitl [V0 V1 V2]
  · isplitl [V0]; · iexact V0
    isplitl [V1] <;> iassumption
  isplitl [S0 S1 S2]
  · isplitl [S0]; · iexact S0
    isplitl [S1] <;> iassumption
  isplitl [L0 L1 L2 L3]
  · isplitl [L0]; · iexact L0
    isplitl [L1]; · iexact L1
    isplitl [L2] <;> iassumption
  iexact Z

theorem deal (A B C D E : Dev nD → sProp 𝕄) : (bigSep Finset.univ fun c => iprop((A c ∗ B c) ∗ C c ∗ D c ∗ E c))
    = bigSep Finset.univ fun c => iprop((A (prv c) ∗ B (nxt c)) ∗ C (prv c) ∗ D (nxt c) ∗ E c) := by
  rw [bigSep_sep', bigSep_sep', bigSep_sep', bigSep_sep', bigSep_univ_equiv ring.symm A, bigSep_univ_equiv ring B,
    bigSep_univ_equiv ring.symm C, bigSep_univ_equiv ring D, ← bigSep_sep', ← bigSep_sep', ← bigSep_sep', ← bigSep_sep']
  rfl

theorem toks_dealt : bigSep allDues (fun x => (dutyTok ER x.1 x.2.1 x.2.2 : sProp 𝕄)) ⊢ bigSep Finset.univ fun c : Dev nD => toks c := by
  unfold allDues; rw [bigSep_map, bigSep_univ_prod]
  refine (bigSep_mono fun c _ => toks_own (F := F) c).trans ?_
  exact Entails.of_eq (deal dBarL dBarR dCred dRecv dOwn)

/-! ## The launch credit -/

/-- Every device pays `n` into the cell of the device that `φ` names: a cell gets `n`. -/
theorem sum_at (φ : Dev nD ≃ Dev nD) (s s' : SemLoc sig) (i i' n : ℕ) (c : Dev nD) :
    (∑ d : Dev nD, (tallyAt ((φ d : Thread nD τ), s) i n : CellTallies nD τ sig ℕ) ((c : Thread nD τ), s') i') = if s' = s ∧ i' = i then n else 0 := by
  rw [Finset.sum_eq_single (φ.symm c)]
  · rw [tallyAt_apply, φ.apply_symm_apply]
    simp only [Prod.mk.injEq, true_and]
  · intro d _ hd
    rw [tallyAt_apply, if_neg]
    rintro ⟨h, -⟩
    exact hd ((Equiv.eq_symm_apply φ).mpr (congrArg (fun g : GSem nD τ sig => g.1.1) h).symm)
  · intro h; exact absurd (Finset.mem_univ _) h

theorem owed_total (s : SemLoc sig) (i : ℕ) (c : Dev nD) : (∑ d : Dev nD, O₀ d ((c : Thread nD τ), s) i)
    = (∑ r ∈ Finset.Ico 0 3, if s = .reg credS ∧ i = r then 1 else 0) + (∑ r ∈ Finset.Ico 0 3, if s = .dma recvS ∧ i = r then N else 0)
      + (if s = .reg barS ∧ i = 0 then 1 else 0) + (if s = .reg barS ∧ i = 0 then 1 else 0) := by
  have h1 := sum_at ring.symm (.reg credS) s
  have h2 := sum_at ring (.dma recvS) s
  have h3 := sum_at ring (.reg barS) s 0 i 1 c
  have h4 := sum_at ring.symm (.reg barS) s 0 i 1 c
  unfold O₀ Obar Orem
  generalize N = n
  simp only [Pi.add_apply, Finsupp.add_apply, Finset.sum_apply, Finsupp.finsetSum_apply, Finset.sum_add_distrib]
  refine congrArg₂ (· + ·) (congrArg₂ (· + ·) (congrArg₂ (· + ·) ?_ ?_) h3) h4
  · rw [Finset.sum_comm]
    exact Finset.sum_congr rfl fun r _ => h1 r i 1 c
  · rw [Finset.sum_comm]
    exact Finset.sum_congr rfl fun r _ => h2 r i n c

theorem rounds3 : Finset.Ico 0 3 = ({0, 1, 2} : Finset ℕ) := by decide

theorem credit_bar (c : Dev nD) : tallyOn (barCell c) (launchCredit (Pipeline.owing O₀) 0 (barCell c)) = (tallyAt (barCell c) 0 2 : CellTallies nD τ sig ℕ) := by
  unfold tallyAt; refine congrArg _ (Finsupp.ext fun i => ?_)
  rw [Pipeline.launchCredit_owing, owed_total, Finset.sum_eq_zero fun r _ => if_neg fun h => absurd h.1 (by decide),
    Finset.sum_eq_zero fun r _ => if_neg fun h => absurd h.1 (by decide), Finsupp.single_apply]
  by_cases h : i = 0
  · rw [if_pos ⟨rfl, h⟩, if_pos h.symm]; rfl
  · rw [if_neg (fun e => h e.2), if_neg (fun e => h e.symm)]; rfl

theorem single3 (n i : ℕ) : (∑ r ∈ Finset.Ico 0 3, if i = r then n else 0) = (Finsupp.single 0 n + (Finsupp.single 1 n + Finsupp.single 2 n) : ℕ →₀ ℕ) i := by
  rw [rounds3, Finset.sum_insert (by decide), Finset.sum_insert (by decide), Finset.sum_singleton]
  simp only [Finsupp.add_apply, Finsupp.single_apply, @eq_comm ℕ i]

theorem credit_cred (c : Dev nD) : tallyOn (credCell c) (launchCredit (Pipeline.owing O₀) 0 (credCell c))
    = (tallyAt (credCell c) 0 1 + (tallyAt (credCell c) 1 1 + tallyAt (credCell c) 2 1) : CellTallies nD τ sig ℕ) := by
  unfold tallyAt; rw [← tallyOn_add, ← tallyOn_add]; refine congrArg _ (Finsupp.ext fun i => ?_)
  rw [Pipeline.launchCredit_owing, owed_total, ← single3, if_neg fun h => absurd h.1 (by decide),
    Finset.sum_eq_zero (f := fun r => if _ ∧ _ then N else 0) fun r _ => if_neg fun h => absurd h.1 (by decide)]
  simp only [true_and, Nat.add_zero]

theorem credit_recv (c : Dev nD) : tallyOn (recvCell c) (launchCredit (Pipeline.owing O₀) 0 (recvCell c))
    = (tallyAt (recvCell c) 0 N + (tallyAt (recvCell c) 1 N + tallyAt (recvCell c) 2 N) : CellTallies nD τ sig ℕ) := by
  unfold tallyAt; rw [← tallyOn_add, ← tallyOn_add]; refine congrArg _ (Finsupp.ext fun i => ?_)
  rw [Pipeline.launchCredit_owing, owed_total, ← single3, if_neg fun h => absurd h.1 (by decide),
    Finset.sum_eq_zero (f := fun r => if _ ∧ _ then 1 else 0) fun r _ => if_neg fun h => absurd h.1 (by decide)]
  simp only [true_and, Nat.add_zero, Nat.zero_add]

theorem cred3 (A B C : CellTallies nD τ sig ℕ) : (cred (A + (B + C)) : sProp 𝕄) ⊢ iprop(cred A ∗ cred B ∗ cred C) :=
  (cred_add A (B + C)).1.trans (sep_mono_right (cred_add B C).1)

theorem sems : (Finset.univ : Finset (SemLoc sig)) = [SemLoc.reg barS, .reg credS, .dma recvS, .dma sendS, .dma locS, .dma outS].toFinset := by decide

theorem creds_intro (c : Dev nD) : (Pipeline.launchCred O₀ c : sProp 𝕄) ⊢ creds c := by
  unfold Pipeline.launchCred
  rw [bigSep_univ_eq_bigSepL _ sems (by decide)]
  show iprop(cred (tallyOn (barCell c) (launchCredit (Pipeline.owing O₀) 0 (barCell c)))
    ∗ cred (tallyOn (credCell c) (launchCredit (Pipeline.owing O₀) 0 (credCell c)))
    ∗ cred (tallyOn (recvCell c) (launchCredit (Pipeline.owing O₀) 0 (recvCell c))) ∗ _) ⊢ _
  rw [credit_bar, credit_cred, credit_recv]
  unfold creds
  iintro ⟨B, C, V, -⟩
  isplitl [B]; · iexact B
  isplitl [C]; · iapply (cred3 (F := F)); iexact C
  iapply (cred3 (F := F)); iexact V

/-! ## The run -/

abbrev T₀ (c : Dev nD) : sProp 𝕄 := iprop(StableHlo.held (c : Thread nD τ) (Pipeline.ucRefs τ sig) (V₀ m c) ∗ ride m c)
abbrev Tₙ (c : Dev nD) : sProp 𝕄 := iprop(StableHlo.held (c : Thread nD τ) (Pipeline.ucRefs τ sig) (V₃ m c) ∗ semVal (barCell c) 0)

/-- What a device holds at launch outside the protocol. -/
def bundle (c : Dev nD) : sProp 𝕄 :=
  iprop(StableHlo.held (c : Thread nD τ) (Pipeline.ucRefs τ sig) (V₀ m c) ∗ creds c ∗ owes (c : Thread nD τ) (O₀ c) ∅ ∗ ∃ r, prngReg c r)

theorem T₀_intro (κ : GSem nD τ sig → ℕ) (c : Dev nD) : iprop(records m κ ∗ (linear c ∗ bundle m c)) ⊢ T₀ m c := by
  unfold bundle T₀ ride kept ow
  iintro ⟨#HR, Hl, Hh, HC, HO, Hp⟩
  isplitl [Hh]; · iexact Hh
  isplitl [Hl HC]
  · isplitl [Hl]
    · iapply (dormant_intro m κ c)
      isplitr; · iexact HR
      iexact Hl
    iexact HC
  isplitl [Hp]; · iexact Hp
  iexists ∅; iexact HO

theorem split_univ {A B : Dev nD → sProp 𝕄} : (bigSep Finset.univ fun c => iprop(A c ∗ B c)) ⊢ iprop(bigSep Finset.univ A ∗ bigSep Finset.univ B) :=
  Entails.of_eq (bigSep_sep' _ _ _)
theorem join_univ {A B : Dev nD → sProp 𝕄} : iprop(bigSep Finset.univ A ∗ bigSep Finset.univ B) ⊢ (bigSep Finset.univ fun c => iprop(A c ∗ B c)) :=
  Entails.of_eq (bigSep_sep' _ _ _).symm

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) (Pipeline.ucRefs τ sig) (V₀ m c)
      from Pipeline.unscopedBufs_held c (V₀ m c), unscopedSems0_eq]
    unfold bundle
    iintro ⟨Hh, Hus, HO, Hcr, Hp, HG⟩
    isplitl [Hh HO Hcr Hp]
    · isplitl [Hh]; · iexact Hh
      isplitl [Hcr]; · iapply (creds_intro (F := F) c); iexact Hcr
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := split_univ $$ H'; icases H2 with ⟨HB, H3⟩
  ihave H4 := split_univ $$ H3; icases H4 with ⟨Hv, HG⟩
  ihave Hu := (Entails.of_eq (bigSep_G (F := F))) $$ HG
  imod (Rounds.fund_launch ER (rd (prod m)) disjoint_cells (fun g _ h => h) allDues) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro m κ c)
  isplitr
  · unfold records
    isplitr; · iexact Hinv
    iexact Hr
  iapply join_univ
  isplitr [HB]
  · unfold linear
    iapply join_univ; isplitl [Hat]; · iapply hat $$ Hat
    iapply join_univ; isplitl [Hopen]; · iapply (Entails.of_eq (keys_eq (F := F))) $$ Hopen
    iapply (toks_dealt (F := F)) $$ Htok
  · iexact HB

theorem held_eq (c : Dev nD) (W : Valuation τ sig (Elt F)) : (StableHlo.held (c : Thread nD τ) (Pipeline.ucRefs τ sig) W : sProp 𝕄)
    = iprop(pt c main_arg0 (W main_arg0) ∗ pt c main_arg1 (W main_arg1) ∗ pt c main_v5 (W main_v5) ∗ pt c main_v1 (W main_v1)
      ∗ pt c main_v2 (W main_v2) ∗ pt c main_v3 (W main_v3) ∗ pt c main_v4 (W main_v4)) := by
  unfold StableHlo.held
  rw [bigSep_eq_bigSepL_of_eq [Proc.devRef .tc main_arg0, Proc.devRef .tc main_arg1, Proc.devRef .tc main_v5, Proc.devRef .tc main_v1,
    Proc.devRef .tc main_v2, Proc.devRef .tc main_v3, Proc.devRef .tc main_v4] (by decide) (by decide)]
  rfl

theorem V₁_arg0 (c : Dev nD) : V₁ m c main_arg0 = m ((c : Thread nD τ).loc main_arg0) := by after_results <;> rfl
theorem V₁_arg1 (c : Dev nD) : V₁ m c main_arg1 = m ((c : Thread nD τ).loc main_arg1) := by after_results <;> rfl
theorem V₃_arg0 (c : Dev nD) : V₃ m c main_arg0 = m ((c : Thread nD τ).loc main_arg0) :=
  (show V₃ m c main_arg0 = V₂ m c main_arg0 by after_results).trans ((V₂_ne m c main_arg0 (by decide)).trans (V₁_arg0 m c))
theorem V₃_arg1 (c : Dev nD) : V₃ m c main_arg1 = m ((c : Thread nD τ).loc main_arg1) :=
  (show V₃ m c main_arg1 = V₂ m c main_arg1 by after_results).trans ((V₂_ne m c main_arg1 (by decide)).trans (V₁_arg1 m c))
/-- What the program returns on device `c`. -/
def result (c : Dev nD) : main_v5.ty.Contents (Elt F) := extf .f32 (part (prod m) 3 c) bitsLt_bf16_f32
theorem V₃_v5 (c : Dev nD) : V₃ m c main_v5 = result m c :=
  (show V₃ m c main_v5 = extf .f32 (V₂ m c main_v4) bitsLt_bf16_f32 by after_results).trans (by rw [V₂_v4]; rfl)
theorem prod_eq (c : Dev nD) : prod m c = truncf .bf16 (Host.dotGeneral dot_S4x2048x2048_S2048x8192_S4x2048x8192_2_0_01_1_n_n none
    (shapeCast _ (m ((c : Thread nD τ).loc main_arg0)) shapeCasts_S4x2048x16x128_S4x2048x2048) (m ((c : Thread nD τ).loc main_arg1))) bitsLt_bf16_f32 := by
  unfold prod; after_results <;> rfl

set_option backward.isDefEq.respectTransparency.types false in
/-- From any memory with zero counters, every fair execution ends with the arguments unchanged, the ring's sum in the result on
    every device, and every counter at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v5) = result m c) ∧ r.2.sem = fun _ => 0) :=
  Pipeline.θ_run_regions_kit_sems (pcfgs (F := F)) adm (pdats m) (0 : ℕ) cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_off) (G := G) (u₀ := u₀)
    (hu₀ := by
      unfold u₀
      iintro Hu
      ihave H := (ownU_pair _ _) $$ Hu
      icases H with ⟨HP, HX⟩
      imodintro
      isplitl [HP]; · iexact HP
      rw [bigSep_G]; iexact HX)
    (T₀ := T₀ m) (Tₙ := Tₙ m)
    (hch := by
      refine ⟨fun c => .rfl, fun c => reg0_pre m c, fun c => reg0_post m c, fun c => ?_⟩
      show iprop(StableHlo.held (c : Thread nD τ) (Pipeline.ucRefs τ sig) (V₃ m c)
          ∗ (semVal (barCell c) 0 ∗ ∃ W, owes (c : Thread nD τ) (0 : CellTallies nD τ sig ℕ) W))
        ⊢ iprop(Tₙ m c ∗ ∃ W, owes (c : Thread nD τ) (0 : CellTallies nD τ sig ℕ) W)
      iintro ⟨Hh, Hb0, HO⟩
      isplitr [HO]
      · isplitl [Hh] <;> iassumption
      · iexact HO)
    (hinit := init m ρ)
    (QY := fun c s => (s.mem ((Memref.whole main_arg0).view.loc (c : Thread nD τ)) = V₃ m c main_arg0
        ∧ s.mem ((Memref.whole main_arg1).view.loc (c : Thread nD τ)) = V₃ m c main_arg1
        ∧ s.mem ((Memref.whole main_v5).view.loc (c : Thread nD τ)) = V₃ m c main_v5) ∧ s.sem (barCell c) = 0)
    (hfin := fun c s' => by
      dsimp only [Tₙ]; rw [held_eq]; unfold pt
      iintro ⟨⟨⟨Hx, Hy, Hz, -⟩, Hb0⟩, HSI⟩
      icombine HSI Hx gives %hx
      icombine HSI Hy gives %hy
      icombine HSI Hz gives %hz
      icombine HSI Hb0 gives %hb
      imodintro
      isplitr
      · ipureintro
        exact ⟨⟨Buf.eq_of_forall_mem_univ hx, Buf.eq_of_forall_mem_univ hy, Buf.eq_of_forall_mem_univ hz⟩, by simpa using hb⟩
      iexact HSI)
    (hQ := fun s h hs => ⟨fun c => by
        obtain ⟨⟨hx, hy, hz⟩, -⟩ := h c
        rw [V₃_arg0] at hx; rw [V₃_arg1] at hy; rw [V₃_v5] at hz
        exact ⟨hx, hy, hz⟩,
      sem_eq_zero hs fun c sm hsm => by
        obtain rfl := unscoped_eq sm hsm
        exact (h c).2⟩)

end Cert.KernelIdeal.RS

end
-- ==== Proof.Value.lean ====
/- The values over the extended reals: the sum that comes round the ring is the device's block of the whole product. -/
module

public import proofs.«01_k».proof.Proof.Launch
public import proofs.«01_k».proof.Proof.Gen.ReferenceIdeal.Run
public import Idealize.ShloMosaic.Lib.Pointwise
public import Idealize.ShloMosaic.Lib.Layout
public import Idealize.ShloMosaic.Lib.Pipeline.ValueKit.Acc
public import Idealize.ShloMosaic.PureOps.Ideal

@[expose] public section

set_option maxRecDepth 16384

noncomputable section

namespace Cert.KernelIdeal.RS

open Cert.KernelIdeal.Gen
open Idealize.ShloMosaic Idealize.ShloMosaic.TcCoe

/-! ## The two products at an index -/

/-- One device's product: the heads of `x` side by side, times `w`. -/
def localMul (x : FVec Ideal S4x2048x16x128 .bf16) (w : FVec Ideal S2048x8192 .bf16) : FVec Ideal S4x2048x8192 .bf16 :=
  truncf .bf16 (Host.dotGeneral dot_S4x2048x2048_S2048x8192_S4x2048x8192_2_0_01_1_n_n none
    (shapeCast S4x2048x2048 x shapeCasts_S4x2048x16x128_S4x2048x2048) w) bitsLt_bf16_f32

theorem localMul_apply (x : FVec Ideal S4x2048x16x128 .bf16) (w : FVec Ideal S2048x8192 .bf16) (b : Fin 4) (s : Fin 2048) (k : Fin 8192) :
    localMul x w (ix3 b s k) = ∑ q : Fin 2048, x (ix4 b s ⟨q.val / 128, by omega⟩ ⟨q.val % 128, by omega⟩) * w (ix2 q k) := by
  pointwise [localMul]

/-- The reference's product. -/
def wholeMul (x : FVec Ideal ⟨4, ![4, 2048, 64, 128]⟩ .bf16) (w : FVec Ideal ⟨2, ![8192, 8192]⟩ .bf16) : FVec Ideal ⟨3, ![4, 2048, 8192]⟩ .f32 :=
  extf .f32 (truncf .bf16 (Host.dotGeneral (F := Ideal) Cert.ReferenceIdeal.dot_S4x2048x8192_S8192x8192_S4x2048x8192_2_0_01_1_n_n none
    (shapeCast _ x Cert.ReferenceIdeal.Gen.shapeCasts_S4x2048x64x128_S4x2048x8192) w) Cert.ReferenceIdeal.Gen.bitsLt_bf16_f32) Cert.ReferenceIdeal.Gen.bitsLt_bf16_f32

theorem wholeMul_apply (x : FVec Ideal ⟨4, ![4, 2048, 64, 128]⟩ .bf16) (w : FVec Ideal ⟨2, ![8192, 8192]⟩ .bf16) (b : Fin 4) (s : Fin 2048) (k : Fin 8192) :
    wholeMul x w (ix3 b s k) = ∑ q : Fin 8192, x (ix4 b s ⟨q.val / 128, by omega⟩ ⟨q.val % 128, by omega⟩) * w (ix2 q k) := by
  pointwise [wholeMul]

/-! ## One device's share of the contraction -/

section Share

variable (A : FVec Ideal ⟨4, ![4, 2048, 64, 128]⟩ .bf16) (B : FVec Ideal ⟨2, ![8192, 8192]⟩ .bf16)

/-- The factor pair number `l` of the whole contraction at `(b, s, k)`, zero past the end. -/
def term (b : Fin 4) (s : Fin 2048) (k : Fin 8192) (l : ℕ) : EReal :=
  if h : l < 8192 then A (ix4 b s ⟨l / 128, by omega⟩ ⟨l % 128, by omega⟩) * B (ix2 ⟨l, h⟩ k) else 0

/-- The part of the contraction over the heads of ring position `z`. -/
def share (z : ℕ) (b : Fin 4) (s : Fin 2048) (k : Fin 8192) : EReal := ∑ q : Fin 2048, term A B b s k (z * 2048 + q.val)

theorem wholeMul_shares (b : Fin 4) (s : Fin 2048) (k : Fin 8192) :
    wholeMul A B (ix3 b s k) = share A B 0 b s k + share A B 1 b s k + share A B 2 b s k + share A B 3 b s k := by
  have h := Fin.sum_univ_univ_mul_add 4 2048 (term A B b s k)
  rw [Fin.sum_univ_four] at h
  refine Eq.trans ?_ h.symm
  rw [wholeMul_apply]
  refine Finset.sum_congr rfl fun q _ => ?_
  unfold term
  rw [dif_pos q.isLt]

/-- The blocks that ring position `z` of the mesh holds. -/
abbrev blkA (c : Dev nD) : FVec Ideal S4x2048x16x128 .bf16 := Layout.blockN ⟨4, ![4, 2048, 16, 128]⟩ ⟨4, ![4, 2048, 64, 128]⟩ (Layout.meshBlock [2, 4, 4] ![[], [], [2], []] c) A
abbrev blkB (c : Dev nD) : FVec Ideal S2048x8192 .bf16 := Layout.blockN ⟨2, ![2048, 8192]⟩ ⟨2, ![8192, 8192]⟩ (Layout.meshBlock [2, 4, 4] ![[2], []] c) B

theorem lin_z (c : Dev nD) : Layout.meshLin [2, 4, 4] c.val [2] = c.val % 4 := by
  show c.val / 1 % 4 * 1 + 0 = c.val % 4
  omega

theorem blkA_apply (c : Dev nD) (b : Fin 4) (s : Fin 2048) (h : Fin 16) (d : Fin 128) :
    blkA A c (ix4 b s h d) = A (ix4 b s ⟨c.val % 4 * 16 + h.val, by omega⟩ d) := by
  unfold blkA
  rw [Layout.blockN_apply]
  refine congrArg A (funext fun a => Fin.ext ?_)
  rw [Layout.TilesN.idx_val]
  fin_cases a
  · show 0 * 4 + b.val = b.val; omega
  · show 0 * 2048 + s.val = s.val; omega
  · show Layout.meshLin [2, 4, 4] c.val [2] * 16 + h.val = c.val % 4 * 16 + h.val; rw [lin_z]
  · show 0 * 128 + d.val = d.val; omega

theorem blkB_apply (c : Dev nD) (q : Fin 2048) (k : Fin 8192) :
    blkB B c (ix2 q k) = B (ix2 ⟨c.val % 4 * 2048 + q.val, by omega⟩ k) := by
  unfold blkB
  rw [Layout.blockN_apply]
  refine congrArg B (funext fun a => Fin.ext ?_)
  rw [Layout.TilesN.idx_val]
  fin_cases a
  · show Layout.meshLin [2, 4, 4] c.val [2] * 2048 + q.val = c.val % 4 * 2048 + q.val; rw [lin_z]
  · show 0 * 8192 + k.val = k.val; omega

theorem localMul_share (c : Dev nD) (b : Fin 4) (s : Fin 2048) (k : Fin 8192) :
    localMul (blkA A c) (blkB B c) (ix3 b s k) = share A B (c.val % 4) b s k := by
  rw [localMul_apply]
  unfold share
  refine Finset.sum_congr rfl fun q _ => ?_
  rw [blkA_apply, blkB_apply]
  unfold term
  have hq := q.isLt
  rw [dif_pos (by omega)]
  refine congrArg₂ (fun x y : EReal => x * y) (congrArg A ?_) rfl
  refine congrArg₂ (ix4 b s) (Fin.ext ?_) (Fin.ext ?_)
  · show c.val % 4 * 16 + q.val / 128 = (c.val % 4 * 2048 + q.val) / 128; omega
  · show q.val % 128 = (c.val % 4 * 2048 + q.val) % 128; omega

end Share

/-! ## Round the ring -/

theorem ck_apply (p : Loc3 Ideal) (c : Dev nD) (j : ℕ) (b : Fin 4) (t : Fin 512) (k : Fin 8192) :
    ck p c j (ix3 b t k) = p (ix3 b ⟨512 * ((c.val % 4 + 3 - j) % 4) + t.val, by omega⟩ k) := by
  refine congrArg p (funext fun a => Fin.ext ?_)
  fin_cases a
  · show 0 + 1 * b.val = b.val; omega
  · show 512 * ((c.val % 4 + 3 - j) % 4) + 1 * t.val = 512 * ((c.val % 4 + 3 - j) % 4) + t.val; rw [Nat.one_mul]
  · show 0 + 1 * k.val = k.val; omega

theorem add_apply (x y : Blk Ideal) (b : Fin 4) (t : Fin 512) (k : Fin 8192) :
    k0_pay1 x y (ix3 b t k) = (x (ix3 b t k) + y (ix3 b t k) : EReal) := by
  pointwise [k0_pay1]

theorem part_step (P : Dev nD → Loc3 Ideal) (r : ℕ) (c : Dev nD) (b : Fin 4) (t : Fin 512) (k : Fin 8192) :
    part P (r + 1) c (ix3 b t k) = (ck (P c) c (r + 1) (ix3 b t k) + part P r (prv c) (ix3 b t k) : EReal) := add_apply _ _ b t k

/-- Where the devices of a ring lie, seen from the one that ends up with the sum. -/
theorem prv_z (c : Dev nD) : (prv c).val % 4 = (c.val % 4 + 3) % 4 := by
  show (16 * (c.val / 16) + 4 * ((c.val / 4) % 4) + (c.val % 4 + 3) % 4) % 4 = _; omega

section Ring

variable (A : FVec Ideal ⟨4, ![4, 2048, 64, 128]⟩ .bf16) (B : FVec Ideal ⟨2, ![8192, 8192]⟩ .bf16)

/-- Copy number `j` on a device whose ring position makes it row block `z`, as a share. -/
theorem ck_share (c : Dev nD) (j z : ℕ) (hz : z < 4) (h : (c.val % 4 + 3 - j) % 4 = z) (b : Fin 4) (t : Fin 512) (k : Fin 8192) :
    (ck (F := Ideal) (localMul (blkA A c) (blkB B c)) c j (ix3 b t k) : EReal) = share A B (c.val % 4) b ⟨512 * z + t.val, by omega⟩ k := by
  rw [ck_apply, localMul_share]
  subst h; rfl

theorem part_sum (c : Dev nD) (b : Fin 4) (t : Fin 512) (k : Fin 8192) :
    (part (F := Ideal) (fun e => localMul (blkA A e) (blkB B e)) 3 c (ix3 b t k) : EReal) = wholeMul A B (ix3 b ⟨512 * (c.val % 4) + t.val, by omega⟩ k) := by
  rw [part_step, part_step, part_step]
  have h1 := prv_z c
  have h2 := prv_z (prv c)
  have h3 := prv_z (prv (prv c))
  have hz : c.val % 4 < 4 := Nat.mod_lt _ (by decide)
  rw [ck_share A B c 3 (c.val % 4) hz (by omega), ck_share A B (prv c) 2 (c.val % 4) hz (by omega),
    ck_share A B (prv (prv c)) 1 (c.val % 4) hz (by omega)]
  rw [show part (F := Ideal) (fun e => localMul (blkA A e) (blkB B e)) 0 (prv (prv (prv c))) (ix3 b t k)
      = ck (localMul (blkA A (prv (prv (prv c)))) (blkB B (prv (prv (prv c))))) (prv (prv (prv c))) 0 (ix3 b t k) from rfl,
    ck_share A B (prv (prv (prv c))) 0 (c.val % 4) hz (by omega), wholeMul_shares]
  have hs : 512 * (c.val % 4) + t.val < 2048 := by omega
  generalize (⟨512 * (c.val % 4) + t.val, hs⟩ : Fin 2048) = s
  rw [h3, h2, h1]
  generalize c.val % 4 = z at hz
  interval_cases z
  · show share A B 0 _ _ _ + (share A B 3 _ _ _ + (share A B 2 _ _ _ + share A B 1 _ _ _)) = _
    ac_rfl
  · show share A B 1 _ _ _ + (share A B 0 _ _ _ + (share A B 3 _ _ _ + share A B 2 _ _ _)) = _
    ac_rfl
  · show share A B 2 _ _ _ + (share A B 1 _ _ _ + (share A B 0 _ _ _ + share A B 3 _ _ _)) = _
    ac_rfl
  · show share A B 3 _ _ _ + (share A B 2 _ _ _ + (share A B 1 _ _ _ + share A B 0 _ _ _)) = _
    ac_rfl

/-- Every device's result is its block of the reference's. -/
theorem result_block (m : (ℓ : Loc nD τ sig) → Buf (Elt Ideal) ℓ)
    (hA : ∀ c : Dev nD, m ((c : Thread nD τ).loc main_arg0) = blkA A c) (hB : ∀ c : Dev nD, m ((c : Thread nD τ).loc main_arg1) = blkB B c) (c : Dev nD) :
    result m c = Layout.blockN ⟨3, ![4, 512, 8192]⟩ ⟨3, ![4, 2048, 8192]⟩ (Layout.meshBlock [2, 4, 4] ![[], [2], []] c) (wholeMul A B) := by
  have hp : prod m = fun e => localMul (blkA A e) (blkB B e) := funext fun e => by rw [prod_eq, hA, hB]; rfl
  unfold result
  rw [hp]
  funext i
  obtain ⟨b, t, k, rfl⟩ : ∃ (b : Fin 4) (t : Fin 512) (k : Fin 8192), i = ix3 b t k := ⟨i 0, i 1, i 2, eq_ix3 i⟩
  rw [Layout.blockN_apply]
  refine (part_sum A B c b t k).trans (congrArg (wholeMul A B) (funext fun a => Fin.ext ?_))
  rw [Layout.TilesN.idx_val]
  fin_cases a
  · show b.val = 0 * 4 + b.val; omega
  · show 512 * (c.val % 4) + t.val = Layout.meshLin [2, 4, 4] c.val [2] * 512 + t.val; rw [lin_z]; omega
  · show k.val = 0 * 8192 + k.val; omega

end Ring

end Cert.KernelIdeal.RS

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem frame_ideal : Cert.quiescent_KernelIdeal := fun m ρ _ =>
  (θ_run Cert.KernelIdeal.defs _ _).mono (fun _ h => ⟨fun c => ⟨(h.1 c).1, (h.1 c).2.1⟩, h.2⟩) (Cert.KernelIdeal.RS.run_main m ρ)

/-- The kernel's program and the idealized one have the same text, so the run over any float values is both. -/
theorem frame_kernel : Cert.quiescent_Kernel := fun m ρ _ =>
  (θ_run Cert.KernelIdeal.defs _ _).mono (fun _ h => ⟨fun c => ⟨(h.1 c).1, (h.1 c).2.1⟩, h.2⟩) (Cert.KernelIdeal.RS.run_main (F := Bits) m ρ)

theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run m ρ)

theorem value : Cert.algebraic_KernelIdeal_ReferenceIdeal := fun m g m' g' _ hargs =>
  ⟨Cert.KernelIdeal.RS.wholeMul (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).2.2.trans (Cert.KernelIdeal.RS.result_block _ _ m (fun c => (hargs c).1) (fun c => (hargs c).2) c), (h.1 c).1, (h.1 c).2.1⟩)
      (Cert.KernelIdeal.RS.run_main m g),
    (θ_run Cert.ReferenceIdeal.defs _ _).mono (fun _ h => h 0) (Cert.ReferenceIdeal.Value.run m' g')⟩

theorem claim : Cert.Claim := ⟨Cert.Kernel.Gen.facts, Cert.KernelIdeal.Gen.facts, Cert.ReferenceIdeal.Gen.facts,
  frame_kernel, frame_ideal, frame_reference, trivial, value⟩

end Cert.Proof

end
